-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_slots_distinct [hPre_slots_distinct : Cert.Pre_slots_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_slots_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_slots_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_slots_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slots_distinct [hPre_slots_distinct : Cert.Pre_slots_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_slots_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_slots_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_slots_distinct [hKernelIdeal : Cert.KernelIdeal.Facts] [hPre_slots_distinct : Cert.Pre_slots_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_slots_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_slots_distinct [hReferenceIdeal : Cert.ReferenceIdeal.Facts] [hPre_slots_distinct : Cert.Pre_slots_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slots_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def preserves_Kernel_KernelIdeal : Prop :=
  True

def preserves_Reference_ReferenceIdeal : Prop :=
  IdealRules.named_const.Statement Cert.ReferenceIdeal.κ "empty" .f32 0xD9FFCB9E#32 ⊥

def algebraic_KernelIdeal_ReferenceIdeal_pre_slots_distinct [hKernelIdeal : Cert.KernelIdeal.Facts] [hReferenceIdeal : Cert.ReferenceIdeal.Facts] [hPre_slots_distinct : Cert.Pre_slots_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_slots_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hReference : Cert.Reference.Facts) (hPre_slots_distinct : Cert.Pre_slots_distinct.Facts),
    quiescent_Kernel (hKernel := hKernel)
    ∧ quiescent_KernelIdeal (hKernelIdeal := hKernelIdeal)
    ∧ quiescent_KernelIdeal_pre_slots_distinct (hKernelIdeal := hKernelIdeal) (hPre_slots_distinct := hPre_slots_distinct)
    ∧ quiescent_ReferenceIdeal (hReferenceIdeal := hReferenceIdeal)
    ∧ quiescent_ReferenceIdeal_pre_slots_distinct (hReferenceIdeal := hReferenceIdeal) (hPre_slots_distinct := hPre_slots_distinct)
    ∧ quiescent_Reference (hReference := hReference)
    ∧ preserves_Kernel_KernelIdeal
    ∧ preserves_Reference_ReferenceIdeal
    ∧ algebraic_KernelIdeal_ReferenceIdeal_pre_slots_distinct (hKernelIdeal := hKernelIdeal) (hReferenceIdeal := hReferenceIdeal) (hPre_slots_distinct := hPre_slots_distinct)
-- ==== Pre_slots_distinct.lean ====
abbrev S32768x256 : Shape := ⟨2, ![32768, 256]⟩
abbrev S65536 : Shape := ⟨1, ![65536]⟩
abbrev S32768 : Shape := ⟨1, ![32768]⟩
abbrev S512x256 : Shape := ⟨2, ![512, 256]⟩
abbrev S256 : Shape := ⟨1, ![256]⟩
abbrev S_ : Shape := ⟨0, ![]⟩
abbrev S32767 : Shape := ⟨1, ![32767]⟩

class Facts : Prop where
  bcast_S_S32768 : S_.BroadcastsInDim S32768 (![] : Fin 0 → Fin S32768.rank)
  slices_S32768_S32767_0 : S32768.Slices ![0] S32767
  slices_S32768_S32767_1 : S32768.Slices ![1] S32767

variable [Facts]

def comparator_i32_d0 : BitVec 32 → BitVec 32 → BitVec 1 :=
  fun l r =>
    let v8 := IntOp.cmpi .slt l r
    v8
def fn {F : FTy → Type} [FloatOps F] (main_arg0 : FVec F S32768x256 .f32) (main_arg1 : FVec F S32768x256 .f32) (main_arg2 : IVec S65536 1) (main_arg3 : IVec S32768 32) (main_arg4 : FVec F S512x256 .f32) (main_arg5 : FVec F S256 .f32) : IVec S32768 1 × IVec S32768 1 × IVec S32767 1 :=
  let main_v0 : IVec S32768 32 := (fun x => Host.sort S32768 0 comparator_i32_d0 x) main_arg3
  let main_c : IVec S_ 32 := constantI S_ 32 0#32
  let main_v1 : IVec S32768 32 := broadcastInDim S32768 ![] bcast_S_S32768 main_c
  let main_v2 : IVec S32768 1 := cmpi .sge main_arg3 main_v1
  let main_c_0 : IVec S_ 32 := constantI S_ 32 65536#32
  let main_v3 : IVec S32768 32 := broadcastInDim S32768 ![] bcast_S_S32768 main_c_0
  let main_v4 : IVec S32768 1 := cmpi .slt main_arg3 main_v3
  let main_v5 : IVec S32767 32 := (extractStridedSlice S32767 ![0] · slices_S32768_S32767_0) main_v0
  let main_v6 : IVec S32767 32 := (extractStridedSlice S32767 ![1] · slices_S32768_S32767_1) main_v0
  let main_v7 : IVec S32767 1 := cmpi .slt main_v5 main_v6
  (main_v2, main_v4, main_v7)
-- ==== Kernel.lean ====
abbrev S32768x256 : Shape := ⟨2, ![32768, 256]⟩
abbrev S65536 : Shape := ⟨1, ![65536]⟩
abbrev S32768 : Shape := ⟨1, ![32768]⟩
abbrev S512x256 : Shape := ⟨2, ![512, 256]⟩
abbrev S256 : Shape := ⟨1, ![256]⟩
abbrev S256x256 : Shape := ⟨2, ![256, 256]⟩
abbrev S1x256 : Shape := ⟨2, ![1, 256]⟩
abbrev S4096x256 : Shape := ⟨2, ![4096, 256]⟩
abbrev S8192x256 : Shape := ⟨2, ![8192, 256]⟩

abbrev nBuf : Space → Nat
  | .hbm => 10
  | .vmem => 11
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S65536, .i1⟩
  | .hbm, ⟨3, _⟩ => ⟨S32768, .i32⟩
  | .hbm, ⟨4, _⟩ => ⟨S512x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S1x256, .f32⟩
  | .hbm, ⟨9, _⟩ => ⟨S32768x256, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S8192x256, .f32⟩
  | .local _ .vmem, ⟨8, _⟩ => ⟨S8192x256, .f32⟩
  | .local _ .vmem, ⟨9, _⟩ => ⟨S32768x256, .bf16⟩
  | .local _ .vmem, ⟨10, _⟩ => ⟨S1x256, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c4096_i32 : BitVec 32 := 4096#32
  let v26 : BitVec 32 := Scalar.muli arg0 c4096_i32
  let v27 : Index := Scalar.indexCast v26
  let c0_12 : Index := 0#32
  ![v27.toNat, 0]
def k0_cond4 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def k0_off2 (i : grid0.Coords) : Fin 2 → Nat :=
  let arg0 : BitVec 32 := BitVec.ofNat 32 (i 0).val
  let c8_i32_2 : BitVec 32 := 8#32
  let v6 : BitVec 32 := Scalar.subi arg0 c8_i32_2
  let c8192_i32 : BitVec 32 := 8192#32
  let v7 : BitVec 32 := Scalar.muli v6 c8192_i32
  let v8 : Index := Scalar.indexCast v7
  let c0 : Index := 0#32
  ![v8.toNat, 0]
def cc0_transform_0 (i : grid0.Coords) : Fin 2 → Nat :=
  let arg0 : BitVec 32 := BitVec.ofNat 32 (i 0).val
  let c8_i32 : BitVec 32 := 8#32
  let v0 : BitVec 1 := Scalar.cmpi .slt arg0 c8_i32
  let c7_i32 : BitVec 32 := 7#32
  let v1 : BitVec 32 := Scalar.select v0 arg0 c7_i32
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c8_i32 : BitVec 32 := 8#32
  let v0 : BitVec 1 := Scalar.cmpi .slt arg0 c8_i32
  let c7_i32 : BitVec 32 := 7#32
  let v1 : BitVec 32 := Scalar.select v0 arg0 c7_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c0_i32 : BitVec 32 := 0#32
  let v2 : BitVec 32 := Scalar.select v0 c0_i32 v1
  let c0_i32_1 : BitVec 32 := 0#32
  let c0_i32_2 : BitVec 32 := 0#32
  ![v2.toNat, c0_i32_1.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
variable {F : FTy → Type} [FloatOps F] [Named F]
def κ : String → Option EReal := fun
  | "empty" => some ⊥
  | _ => none
-- ==== Reference.lean ====
abbrev S32768x256 : Shape := ⟨2, ![32768, 256]⟩
abbrev S65536 : Shape := ⟨1, ![65536]⟩
abbrev S32768 : Shape := ⟨1, ![32768]⟩
abbrev S512x256 : Shape := ⟨2, ![512, 256]⟩
abbrev S256 : Shape := ⟨1, ![256]⟩
abbrev S32768x512 : Shape := ⟨2, ![32768, 512]⟩
abbrev S1x256 : Shape := ⟨2, ![1, 256]⟩
abbrev S65536x256 : Shape := ⟨2, ![65536, 256]⟩
abbrev S_ : Shape := ⟨0, ![]⟩
abbrev S32768x1 : Shape := ⟨2, ![32768, 1]⟩

abbrev nBuf : Space → Nat
  | .hbm => 46
  | .vmem => 2
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S65536, .i1⟩
  | .hbm, ⟨3, _⟩ => ⟨S32768, .i32⟩
  | .hbm, ⟨4, _⟩ => ⟨S512x256, .f32⟩
  | .hbm, ⟨5, _⟩ => ⟨S256, .f32⟩
  | .hbm, ⟨6, _⟩ => ⟨S32768x512, .f32⟩
  | .hbm, ⟨7, _⟩ => ⟨S32768x256, .f32⟩
  | .hbm, ⟨8, _⟩ => ⟨S1x256, .f32⟩
  | .hbm, ⟨9, _⟩ => ⟨S32768x256, .f32⟩
  | .hbm, ⟨10, _⟩ => ⟨S32768x256, .f32⟩
  | .hbm, ⟨11, _⟩ => ⟨S32768x256, .f32⟩
  | .hbm, ⟨12, _⟩ => ⟨S256, .f32⟩
  | .hbm, ⟨13, _⟩ => ⟨S65536x256, .f32⟩
  | .hbm, ⟨14, _⟩ => ⟨S_, .i32⟩
  | .hbm, ⟨15, _⟩ => ⟨S32768, .i32⟩
  | .hbm, ⟨16, _⟩ => ⟨S32768, .i1⟩
  | .hbm, ⟨17, _⟩ => ⟨S_, .i32⟩
  | .hbm, ⟨18, _⟩ => ⟨S32768, .i32⟩
  | .hbm, ⟨19, _⟩ => ⟨S32768, .i32⟩
  | .hbm, ⟨20, _⟩ => ⟨S32768, .i32⟩
  | .hbm, ⟨21, _⟩ => ⟨S32768x1, .i32⟩
  | .hbm, ⟨22, _⟩ => ⟨S65536x256, .f32⟩
  | .hbm, ⟨23, _⟩ => ⟨S_, .f32⟩
  | .hbm, ⟨24, _⟩ => ⟨S256, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S1x256, .f32⟩
  | .hbm, ⟨29, _⟩ => ⟨S65536x256, .f32⟩
  | .hbm, ⟨30, _⟩ => ⟨S65536x256, .f32⟩
  | .hbm, ⟨31, _⟩ => ⟨S65536x256, .f32⟩
  | .hbm, ⟨32, _⟩ => ⟨S_, .f32⟩
  | .hbm, ⟨33, _⟩ => ⟨S256, .f32⟩
  | .hbm, ⟨34, _⟩ => ⟨S1x256, .f32⟩
  | .hbm, ⟨35, _⟩ => ⟨S65536x256, .f32⟩
  | .hbm, ⟨36, _⟩ => ⟨S65536x256, .f32⟩
  | .hbm, ⟨37, _⟩ => ⟨S_, .i32⟩
  | .hbm, ⟨38, _⟩ => ⟨S32768, .i32⟩
  | .hbm, ⟨39, _⟩ => ⟨S32768, .i1⟩
  | .hbm, ⟨40, _⟩ => ⟨S_, .i32⟩
  | .hbm, ⟨41, _⟩ => ⟨S32768, .i32⟩
  | .hbm, ⟨42, _⟩ => ⟨S32768, .i32⟩
  | .hbm, ⟨43, _⟩ => ⟨S32768, .i32⟩
  | .hbm, ⟨44, _⟩ => ⟨S32768x1, .i32⟩
  | .hbm, ⟨45, _⟩ => ⟨S32768x256, .f32⟩
  | .local _ .vmem, ⟨0, _⟩ => ⟨S256, .f32⟩
  | .local _ .vmem, ⟨1, _⟩ => ⟨S256, .f32⟩
  | _, _ => ⟨S32768x256, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Step.lean ====
/-
  One grid point of the kernel's body, run on any whole buffers. Three kinds of point: the first one (which starts
  the running column sums), the other points of the first phase (which add to them) and the points of the second
  phase (which write one block of quotients).
-/
module

public import proofs.«01_k».proof.Proof.Gen.KernelIdeal.Frame
public import proofs.«01_k».proof.Proof.Gen.KernelIdeal.Skeleton
public import Idealize.ShloMosaic.Lib.VecWindow
public import Idealize.ShloMosaic.Lib.Claim

@[expose] public section

set_option maxRecDepth 16384

noncomputable section

namespace Cert.Proof.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## Which kind of point it is -/

/-- The body's test for "this is the first point", as the body computes it from the grid coordinate. -/
abbrev isFirst (i : grid0.Coords) : Prop :=
  Scalar.cmpi .ne (Scalar.extui (Scalar.cmpi .eq (BitVec.ofNat 32 (i 0).val) 0#32)) 0#32 = 1#1

/-- The body's test for "this is not the first point". -/
abbrev notFirst (i : grid0.Coords) : Prop :=
  Scalar.cmpi .ne (Scalar.extui (Scalar.cmpi .ne (BitVec.ofNat 32 (i 0).val) 0#32)) 0#32 = 1#1

/-- The first phase is the points before point 8. -/
theorem phase_one : ∀ t : Fin cfg0.N, k0_cond1 (grid0.coords t) = 1#1 ↔ t.val < 8 :=
  (by decide +kernel : ∀ t : Fin grid0.N, k0_cond1 (grid0.coords t) = 1#1 ↔ t.val < 8)

/-- The second phase is the points from point 8 on. -/
theorem phase_two : ∀ t : Fin cfg0.N, k0_cond4 (grid0.coords t) = 1#1 ↔ 8 ≤ t.val :=
  (by decide +kernel : ∀ t : Fin grid0.N, k0_cond4 (grid0.coords t) = 1#1 ↔ 8 ≤ t.val)

theorem first_iff : ∀ t : Fin cfg0.N, isFirst (grid0.coords t) ↔ t.val = 0 :=
  (by decide +kernel : ∀ t : Fin grid0.N, isFirst (grid0.coords t) ↔ t.val = 0)

theorem notFirst_iff : ∀ t : Fin cfg0.N, notFirst (grid0.coords t) ↔ t.val ≠ 0 :=
  (by decide +kernel : ∀ t : Fin grid0.N, notFirst (grid0.coords t) ↔ t.val ≠ 0)

/-- The grid's one coordinate at point `t` is `t`. -/
theorem coord_val : ∀ t : Fin cfg0.N, (grid0.coords t 0).val = t.val :=
  (by decide +kernel : ∀ t : Fin grid0.N, (grid0.coords t 0).val = t.val)

/-- The rows point `t` of the second phase reads start at row `8192 (t - 8)`. -/
theorem off2_eq : ∀ t : Fin cfg0.N, 8 ≤ t.val → k0_off2 (grid0.coords t) = ![8192 * (t.val - 8), 0] :=
  (by decide +kernel : ∀ t : Fin grid0.N, 8 ≤ t.val → k0_off2 (grid0.coords t) = ![8192 * (t.val - 8), 0])

/-! ## The body on any buffers -/

section Runs

variable (c : Dev nD) (E : Set ℕ) (i : grid0.Coords)
  (arg1 : Memref sig .tc .vmem S4096x256 .f32) (harg1 : arg1.IsWhole) (arg2 : Memref sig .tc .vmem S4096x256 .f32) (harg2 : arg2.IsWhole)
  (arg3 : Memref sig .tc .vmem S256x256 .f32) (harg3 : arg3.IsWhole) (arg4 : Memref sig .tc .vmem S256x256 .f32) (harg4 : arg4.IsWhole)
  (arg5 : Memref sig .tc .vmem S1x256 .f32) (harg5 : arg5.IsWhole) (arg6 : Memref sig .tc .vmem S8192x256 .f32) (harg6 : arg6.IsWhole)
  (arg7 : Memref sig .tc .vmem S32768x256 .bf16) (harg7 : arg7.IsWhole) (arg8 : Memref sig .tc .vmem S1x256 .f32) (harg8 : arg8.IsWhole)
  (x0 x1 : Vec F S4096x256 .f32) (x2 x3 : Vec F S256x256 .f32) (x4 : Vec F S1x256 .f32)
  (x5 : Vec F S8192x256 .f32) (de : Vec F S32768x256 .bf16) (ds : Vec F S1x256 .f32)

/-- At the first point the body puts its block of exponentials into the big scratch buffer and its column sums into
the small one, and leaves everything else alone. -/
theorem run_first (K : PUnit → sProp 𝕄) (h1 : k0_cond1 i = 1#1) (h2 : isFirst i) (h3 : ¬ notFirst i) (h4 : ¬ k0_cond4 i = 1#1) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare de ∗ owns (c : Thread nD τ) arg8 fullShare ds
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (VecWindow.put de (k0_off1 i) S4096x256.size (k0_pay2 x0 x2 x1 x3 x4))
            ∗ owns (c : Thread nD τ) arg8 fullShare (k0_pay4 x0 x2 x1 x3 x4)) -∗ K ⟨⟩))
      ⊢ wp frame (wpE (defs₀ (F := F)) Variants.none c none) E
          (cc0__attn_body i arg1 harg1 arg2 harg2 arg3 harg3 arg4 harg4 arg5 harg5 arg6 harg6 arg7 harg7 arg8 harg8) K := by
  simp only [cc0__attn_body_eq_skeleton]; unfold cc0__attn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | sl_exact h1 | sl_exact h2 | sl_exact h3 | sl_exact h4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_cons_put _ _ _ _ [] rfl).trans ?_
    rw [View.readAt_full arg1.view, View.readAt_full arg3.view, View.readAt_full arg2.view, View.readAt_full arg4.view, View.readAt_full arg5.view]
    rfl
  iexists _; isplitr
  swap; · iexact H7
  ipureintro
  refine (View.read_writes_full _ _ _ _ []).trans ?_
  rw [View.readAt_full arg1.view, View.readAt_full arg3.view, View.readAt_full arg2.view, View.readAt_full arg4.view, View.readAt_full arg5.view]

/-- At a later point of the first phase the body puts its block of exponentials into the big scratch buffer and adds
its column sums to the small one. -/
theorem run_add (K : PUnit → sProp 𝕄) (h1 : k0_cond1 i = 1#1) (h2 : ¬ isFirst i) (h3 : notFirst i) (h4 : ¬ k0_cond4 i = 1#1) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare de ∗ owns (c : Thread nD τ) arg8 fullShare ds
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (VecWindow.put de (k0_off1 i) S4096x256.size (k0_pay2 x0 x2 x1 x3 x4))
            ∗ owns (c : Thread nD τ) arg8 fullShare (k0_pay5 x0 x2 x1 x3 x4 ds)) -∗ K ⟨⟩))
      ⊢ wp frame (wpE (defs₀ (F := F)) Variants.none c none) E
          (cc0__attn_body i arg1 harg1 arg2 harg2 arg3 harg3 arg4 harg4 arg5 harg5 arg6 harg6 arg7 harg7 arg8 harg8) K := by
  simp only [cc0__attn_body_eq_skeleton]; unfold cc0__attn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | sl_exact h1 | sl_exact h2 | sl_exact h3 | sl_exact h4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_cons_put _ _ _ _ [] rfl).trans ?_
    rw [View.readAt_full arg1.view, View.readAt_full arg3.view, View.readAt_full arg2.view, View.readAt_full arg4.view, View.readAt_full arg5.view]
    rfl
  iexists _; isplitr
  swap; · iexact H7
  ipureintro
  refine (View.read_writes_full _ _ _ _ []).trans ?_
  rw [View.readAt_full arg1.view, View.readAt_full arg3.view, View.readAt_full arg2.view, View.readAt_full arg4.view, View.readAt_full arg5.view,
    View.readAt_full arg8.view]

/-- At a point of the second phase the body writes its 8192 rows of the big scratch buffer, each column scaled by the
inverse of its sum, into the output's buffer, and leaves everything else alone. -/
theorem run_scale (K : PUnit → sProp 𝕄) (h1 : ¬ k0_cond1 i = 1#1) (h4 : k0_cond4 i = 1#1) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare de ∗ owns (c : Thread nD τ) arg8 fullShare ds
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay6 (VecWindow.window de (k0_off2 i) S8192x256.size (k0_off2_inb i h4)) ds)
            ∗ owns (c : Thread nD τ) arg7 fullShare de ∗ owns (c : Thread nD τ) arg8 fullShare ds) -∗ K ⟨⟩))
      ⊢ wp frame (wpE (defs₀ (F := F)) Variants.none c none) E
          (cc0__attn_body i arg1 harg1 arg2 harg2 arg3 harg3 arg4 harg4 arg5 harg5 arg6 harg6 arg7 harg7 arg8 harg8) K := by
  simp only [cc0__attn_body_eq_skeleton]; unfold cc0__attn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | sl_exact h1 | sl_exact h4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_full _ _ _ _ []).trans ?_
    rw [View.readAt_full arg8.view, View.readAt_unit arg7.view f6 _ rfl]
  isplitl [H6]
  · iexists f6; isplitr; · ipureintro; rfl
    iexact H6
  iexists f7; isplitr; · ipureintro; rfl
  iexact H7

end Runs

end Cert.Proof.Step

end
-- ==== Proof.Launch.lean ====
/-
  The kernel's run, for any values. What the two scratch buffers hold before each grid point is stated by two
  functions: `rowsAt`, the big buffer's rows once their point has run, and `sumsAt`, the running column sums. From them:
  the body's obligation at every point, the run, the frame, and the result array as an explicit function.
-/
module

public import proofs.«01_k».proof.Proof.Step
public import Idealize.ShloMosaic.Lib.ValueIdxCore

@[expose] public section

set_option maxRecDepth 16384

noncomputable section

namespace Cert.Proof.Launch

open Cert.KernelIdeal Cert.KernelIdeal.Gen Cert.Proof.Step
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch buffers hold -/

/-- Grid point number `n` (the last one for any larger `n`). -/
def pt (n : ℕ) : Fin cfg0.N := ⟨min n 11, by have h : cfg0.N = 12 := N_0; omega⟩

theorem pt_val (t : Fin cfg0.N) : pt t.val = t :=
  Fin.ext (by have h : cfg0.N = 12 := N_0; have := t.isLt; show min t.val 11 = t.val; omega)

/-- The block of exponentials the body stores at point `t`. -/
def expBlock (c : Dev nD) (t : Fin cfg0.N) : Vec F S4096x256 .bf16 :=
  k0_pay2 (iblk m c 0 t) (iblk m c 2 t) (iblk m c 1 t) (iblk m c 3 t) (iblk m c 4 t)

/-- The big scratch buffer once every point of the first phase has run: row `i` is row `i % 4096` of the block that
point `i / 4096` stored. -/
def rowsAt (c : Dev nD) : Vec F S32768x256 .bf16 := fun j =>
  expBlock m c (pt ((j 0).val / 4096)) (ix2 ⟨(j 0).val % 4096, Nat.mod_lt _ (by decide)⟩ (j 1))

/-- The running column sums after point `n`: point 0 starts them, points 1 to 7 add to them, later points keep them. -/
def sumsAt (c : Dev nD) : ℕ → Vec F S1x256 .f32
  | 0 => k0_pay4 (iblk m c 0 (pt 0)) (iblk m c 2 (pt 0)) (iblk m c 1 (pt 0)) (iblk m c 3 (pt 0)) (iblk m c 4 (pt 0))
  | n + 1 =>
    if n + 1 < 8 then
      k0_pay5 (iblk m c 0 (pt (n + 1))) (iblk m c 2 (pt (n + 1))) (iblk m c 1 (pt (n + 1))) (iblk m c 3 (pt (n + 1)))
        (iblk m c 4 (pt (n + 1))) (sumsAt c n)
    else sumsAt c n

/-- The rows point `t` of the second phase reads. -/
def slab (c : Dev nD) (t : Fin cfg0.N) : Vec F S8192x256 .bf16 := fun j =>
  rowsAt m c (ix2 ⟨8192 * (t.val - 8) + (j 0).val, by
    have h : cfg0.N = 12 := N_0; have := t.isLt; have : (j 0).val < 8192 := (j 0).isLt; omega⟩ (j 1))

/-- The block of the result point `t` of the second phase writes. -/
def quotBlock (c : Dev nD) (t : Fin cfg0.N) : Vec F S8192x256 .f32 := k0_pay6 (slab m c t) (sumsAt m c (t.val - 1))

/-- Before point `n`, rows 0 to `4096 n` of the big scratch buffer are in place. -/
def Filled (c : Dev nD) (n : ℕ) (de : Vec F S32768x256 .bf16) : Prop := ∀ j : S32768x256.Idx, (j 0).val < 4096 * n → de j = rowsAt m c j

/-- Storing point `t`'s block puts its 4096 rows in place and keeps those before it. -/
theorem filled_put (c : Dev nD) (t : Fin cfg0.N) (ht : t.val < 8) (de : Vec F S32768x256 .bf16) (h : Filled m c t.val de) :
    Filled m c (t.val + 1) (VecWindow.put de (k0_off1 (grid0.coords t)) S4096x256.size (expBlock m c t)) := by
  intro j hj
  rw [k0_off1_eq, coord_val]
  by_cases hr : (j 0).val < 4096 * t.val
  · rw [← h j hr]
    exact dif_neg fun hall => absurd (hall (0 : Fin 2)).1 (Nat.not_le.mpr hr)
  · have hm : ∀ a : Fin 2, (![4096 * t.val, 0] : Fin 2 → ℕ) a ≤ (j a).val ∧ (j a).val < (![4096 * t.val, 0] : Fin 2 → ℕ) a + S4096x256.size a := by
      refine Fin.forall_fin_two.mpr ⟨⟨Nat.not_lt.mp hr, ?_⟩, ⟨Nat.zero_le _, ?_⟩⟩
      · show (j 0).val < 4096 * t.val + 4096
        omega
      · show (j 1).val < 0 + 256
        have : (j 1).val < 256 := (j 1).isLt
        omega
    refine (dif_pos hm).trans ?_
    have hq : (j 0).val / 4096 = t.val := by omega
    unfold rowsAt
    rw [hq, pt_val]
    refine congrArg (expBlock m c t) (funext (Fin.forall_fin_two.mpr ⟨Fin.ext ?_, Fin.ext ?_⟩))
    · show (j 0).val - 4096 * t.val = (j 0).val % 4096
      omega
    · show (j 1).val - 0 = (j 1).val
      omega

/-- Once all eight blocks are in place a later point changes nothing. -/
theorem filled_mono (c : Dev nD) {n n' : ℕ} (h8 : 8 ≤ n) (de : Vec F S32768x256 .bf16) (h : Filled m c n de) : Filled m c n' de := fun j _ =>
  h j (by have : (j 0).val < 32768 := (j 0).isLt; omega)

/-- The window the second phase reads of a filled buffer is `slab`. -/
theorem window_filled (c : Dev nD) (t : Fin cfg0.N) (ht : 8 ≤ t.val) (h4) (de : Vec F S32768x256 .bf16) (h : Filled m c t.val de) :
    VecWindow.window de (k0_off2 (grid0.coords t)) S8192x256.size h4 = slab m c t := by
  funext j
  have e : (VecWindow.window de (k0_off2 (grid0.coords t)) S8192x256.size h4) j
      = de ((Rect.unit (s := S32768x256) (k0_off2 (grid0.coords t)) S8192x256.size h4).emb j) := rfl
  rw [e, filled_mono m c (n' := 8) ht de h _ (by
    have : (((Rect.unit (s := S32768x256) (k0_off2 (grid0.coords t)) S8192x256.size h4).emb j) 0).val < 32768 := Fin.isLt _
    omega)]
  unfold slab
  refine congrArg (rowsAt m c) (funext (Fin.forall_fin_two.mpr ⟨Fin.ext ?_, Fin.ext ?_⟩))
  · show k0_off2 (grid0.coords t) (0 : Fin 2) + 1 * (j 0).val = 8192 * (t.val - 8) + (j 0).val
    have e0 : k0_off2 (grid0.coords t) (0 : Fin 2) = 8192 * (t.val - 8) := congrFun (off2_eq t ht) 0
    omega
  · show k0_off2 (grid0.coords t) (1 : Fin 2) + 1 * (j 1).val = (j 1).val
    have e1 : k0_off2 (grid0.coords t) (1 : Fin 2) = 0 := congrFun (off2_eq t ht) 1
    omega

theorem sumsAt_first (c : Dev nD) (t : Fin cfg0.N) (h : t.val = 0) :
    sumsAt m c t.val = k0_pay4 (iblk m c 0 t) (iblk m c 2 t) (iblk m c 1 t) (iblk m c 3 t) (iblk m c 4 t) := by
  have e : pt 0 = t := by rw [← h]; exact pt_val t
  rw [h]; unfold sumsAt; rw [e]

theorem sumsAt_add (c : Dev nD) (t : Fin cfg0.N) (h : t.val ≠ 0) (h8 : t.val < 8) :
    sumsAt m c t.val
      = k0_pay5 (iblk m c 0 t) (iblk m c 2 t) (iblk m c 1 t) (iblk m c 3 t) (iblk m c 4 t) (sumsAt m c (t.val - 1)) := by
  have e := pt_val t
  obtain ⟨n, hn⟩ := Nat.exists_eq_succ_of_ne_zero h
  rw [hn] at e h8 ⊢
  rw [Nat.succ_sub_one]
  conv_lhs => unfold sumsAt
  rw [if_pos h8, e]

theorem sumsAt_keep (c : Dev nD) (n : ℕ) (h8 : 8 ≤ n) : sumsAt m c n = sumsAt m c (n - 1) := by
  obtain ⟨k, rfl⟩ : ∃ k, n = k + 1 := ⟨n - 1, by omega⟩
  rw [Nat.add_sub_cancel]
  conv_lhs => unfold sumsAt
  rw [if_neg (by omega)]

/-! ## The proof data -/

/-- The two scratch buffers, whole. -/
abbrev bigScratch : Memref sig .tc .vmem S32768x256 .bf16 := Memref.whole cc0_scratch0
abbrev sumScratch : Memref sig .tc .vmem S1x256 .f32 := Memref.whole cc0_scratch1

/-- What holds of the scratch buffers before point `n`. -/
def carried (c : Dev nD) (n : ℕ) : sProp 𝕄 :=
  iprop((∃ de, ⌜Filled m c n de⌝ ∗ owns (c : Thread nD τ) bigScratch fullShare de)
    ∗ (∃ ds, ⌜n ≠ 0 → ds = sumsAt m c (n - 1)⌝ ∗ owns (c : Thread nD τ) sumScratch fullShare ds) ∗ (∃ r, prngReg c r))

/-- The proof data: the arrays as the region finds them; each input's buffer left at its block, the output's at the
block of quotients; the scratch buffers carried by `carried`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => quotBlock m c t
  Φ t := carried m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = quotBlock m c t := by dsimp only [dats]

/-- Each input's buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- The output's buffer is left alone in the first phase and written in the second. -/
theorem idle5 : ∀ t : Fin cfg0.N, t.val < 8 → cfg0.idle 5 (grid0.coords t) = true :=
  (by decide +kernel : ∀ t : Fin grid0.N, t.val < 8 → idle0 5 (grid0.coords t) = true)
theorem live5 : ∀ t : Fin cfg0.N, 8 ≤ t.val → cfg0.idle 5 (grid0.coords t) = false :=
  (by decide +kernel : ∀ t : Fin grid0.N, 8 ≤ t.val → idle0 5 (grid0.coords t) = false)
/-- The output is written back exactly at the points of the second phase. -/
theorem flush5 : ∀ t : Fin cfg0.N, (cfg0.win 5).flush t = true ↔ 8 ≤ t.val :=
  (by decide +kernel : ∀ t : Fin grid0.N, win0_5.flush t = true ↔ 8 ≤ t.val)

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    show (dats m 0 c).Φ t.castSucc = carried m c t.val from by dsimp only [dats]; rfl,
    show (dats m 0 c).Φ t.succ = carried m c (t.val + 1) from by dsimp only [dats]; rfl,
    after0, after1, after2, after3, after4]
  unfold carried
  by_cases h8 : t.val < 8
  · rw [(dats m 0 c).leavesExact_idle 5 t (idle5 t h8) (Bool.eq_false_iff.mpr fun h => absurd ((flush5 t).mp h) (by omega))]
    by_cases h0 : t.val = 0
    · iintro ⟨⟨⟨%de, %hde, H6⟩, ⟨%ds, -, H7⟩, Hg⟩, Ho, ⟨%d0, H0⟩, ⟨%d1, H1⟩, ⟨%d2, H2⟩, ⟨%d3, H3⟩, ⟨%d4, H4⟩, ⟨%d5, H5⟩⟩
      iapply (run_first c Set.univ (grid0.coords t) _ _ _ _ _ _ _ _ _ _ _ _ _ _ _ _ (iblk m c 0 t) (iblk m c 1 t) (iblk m c 2 t) (iblk m c 3 t)
        (iblk m c 4 t) ((dats m 0 c).before 5 t d5) de ds _ ((phase_one t).mpr h8) ((first_iff t).mpr h0) (fun h => (notFirst_iff t).mp h h0)
        (fun h => absurd ((phase_two t).mp h) (by omega)))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, H7⟩
      isplitl [H6 H7 Hg]
      · isplitl [H6]
        · iexists _; isplitr
          swap; · iexact H6
          ipureintro; exact filled_put m c t h8 de hde
        isplitl [H7]
        · iexists _; isplitr
          swap; · iexact H7
          ipureintro; intro _; rw [Nat.add_sub_cancel]; exact (sumsAt_first m c t h0).symm
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
    · iintro ⟨⟨⟨%de, %hde, H6⟩, ⟨%ds, %hds, H7⟩, Hg⟩, Ho, ⟨%d0, H0⟩, ⟨%d1, H1⟩, ⟨%d2, H2⟩, ⟨%d3, H3⟩, ⟨%d4, H4⟩, ⟨%d5, H5⟩⟩
      iapply (run_add c Set.univ (grid0.coords t) _ _ _ _ _ _ _ _ _ _ _ _ _ _ _ _ (iblk m c 0 t) (iblk m c 1 t) (iblk m c 2 t) (iblk m c 3 t)
        (iblk m c 4 t) ((dats m 0 c).before 5 t d5) de ds _ ((phase_one t).mpr h8) (fun h => h0 ((first_iff t).mp h)) ((notFirst_iff t).mpr h0)
        (fun h => absurd ((phase_two t).mp h) (by omega)))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, H7⟩
      isplitl [H6 H7 Hg]
      · isplitl [H6]
        · iexists _; isplitr
          swap; · iexact H6
          ipureintro; exact filled_put m c t h8 de hde
        isplitl [H7]
        · iexists _; isplitr
          swap; · iexact H7
          ipureintro; intro _; rw [Nat.add_sub_cancel, hds h0]; exact (sumsAt_add m c t h0 h8).symm
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
  · have h8' : 8 ≤ t.val := Nat.not_lt.mp h8
    rw [show (dats m 0 c).leavesExact 5 t = owns (c : Thread nD τ) (st0_5 t) fullShare ((dats m 0 c).after 5 t) from by
      unfold Dat.leavesExact; rw [live5 t h8'], after5]
    iintro ⟨⟨⟨%de, %hde, H6⟩, ⟨%ds, %hds, H7⟩, Hg⟩, Ho, ⟨%d0, H0⟩, ⟨%d1, H1⟩, ⟨%d2, H2⟩, ⟨%d3, H3⟩, ⟨%d4, H4⟩, ⟨%d5, H5⟩⟩
    iapply (run_scale c Set.univ (grid0.coords t) _ _ _ _ _ _ _ _ _ _ _ _ _ _ _ _ (iblk m c 0 t) (iblk m c 1 t) (iblk m c 2 t) (iblk m c 3 t)
      (iblk m c 4 t) ((dats m 0 c).before 5 t d5) de ds _ (fun h => h8 ((phase_one t).mp h)) ((phase_two t).mpr h8'))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    rw [window_filled m c t h8' _ de hde, hds (by omega)]
    iintro ⟨H0, H1, H2, H3, H4, H5, H6, H7⟩
    isplitl [H6 H7 Hg]
    · isplitl [H6]
      · iexists _; isplitr
        swap; · iexact H6
        ipureintro; exact filled_mono m c h8' de hde
      isplitl [H7]
      · iexists _; isplitr
        swap; · iexact H7
        ipureintro; intro _; rw [Nat.add_sub_cancel]; exact (sumsAt_keep m c t.val h8').symm
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t` is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem scoped_eq (c : Dev nD) :
    (Pipeline.ΦA spec0 c : sProp 𝕄)
      = iprop(iprop((∃ d, owns (c : Thread nD τ) bigScratch fullShare d) ∗ (∃ d, owns (c : Thread nD τ) sumScratch fullShare d)) ∗ (∃ r, prngReg c r)) := by
  unfold Pipeline.ΦA; rw [scopedRest0_eq]; simp only [bigScratch, sumScratch, owns_whole]; rfl

theorem hin (c : Dev nD) : Pipeline.ΦA spec0 c ⊢ (dats m 0 c).Φ 0 := by
  rw [show (dats m 0 c).Φ 0 = carried m c 0 from by dsimp only [dats]; rfl, scoped_eq]
  unfold carried
  iintro ⟨⟨⟨%de, H6⟩, ⟨%ds, H7⟩⟩, Hg⟩
  isplitl [H6]
  · iexists de; isplitr
    · ipureintro; intro j hj; exact absurd hj (by omega)
    iexact H6
  isplitl [H7]
  · iexists ds; isplitr
    · ipureintro; intro h; exact absurd rfl h
    iexact H7
  iexact Hg

theorem hout (c : Dev nD) : (dats m 0 c).Φ (Fin.last cfg0.N) ⊢ Pipeline.ΦA spec0 c := by
  rw [show (dats m 0 c).Φ (Fin.last cfg0.N) = carried m c cfg0.N from by dsimp only [dats]; rfl, scoped_eq]
  unfold carried
  iintro ⟨⟨%de, -, H6⟩, ⟨%ds, -, H7⟩, Hg⟩
  isplitl [H6 H7]
  · isplitl [H6]
    · iexists de; iexact H6
    iexists ds; iexact H7
  iexact Hg

set_option backward.isDefEq.respectTransparency.types false in
/-- The run: every array of the pipeline ends at what the proof data says, every other buffer as the region found it,
and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run without the counters. -/
theorem run_arrays : θ_run defs (onTc (τ := τ) (main (F := F))) (s₀ m ρ) (Pipeline.FramePost cfgs (dats m) 0 (V m)) :=
  (θ_run defs _ _).mono (fun _ h => h.1) (run_quiescent m ρ)

/-- The frame: every argument ends as it began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_arrays m ρ)) ((θ_run defs _ _).mono (fun _ h => h.2) (run_quiescent m ρ))

end Cert.Proof.Launch

end
-- ==== Proof.KernelFrame.lean ====
/-
  The frame of the kernel as printed. The idealization rewrote no operation, so the two programs are one program under two
  names, and the frame proved for any values is the frame of both.
-/
module

public import proofs.«01_k».proof.Proof.Launch
public import proofs.«01_k».proof.Proof.Gen.Kernel.Frame

@[expose] public section

set_option maxRecDepth 16384

noncomputable section

namespace Cert.Proof.KernelFrame

open Cert.Kernel Cert.Kernel.Gen
open Idealize.ShloMosaic Idealize.ShloMosaic.TcCoe
open Idealize.SL Idealize.SL.Sem

variable {F : FTy → Type} [FloatOps F]

/-- The two programs' kernel bodies are the same. -/
theorem bodies_eq : Cert.Kernel.defs₀ (F := F) = Cert.KernelIdeal.defs₀ (F := F) := by
  funext p l a
  match l, a with
  | 0, (t, s) => match p with
    | .tc => rfl
    | .scScalar _ => rfl
    | .scVector _ _ => rfl

/-- So are their body tables, with the pipeline's own bodies joined. -/
theorem defs_eq : Cert.Kernel.defs (F := F) = Cert.KernelIdeal.defs (F := F) :=
  congrArg (Pipeline.defs (Cert.Kernel.pcfgs (F := F))) bodies_eq

/-- Every run of the kernel ends, with the arguments as they were and every semaphore counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [defs_eq]
  exact Launch.frame (F := F) m ρ

end Cert.Proof.KernelFrame

end
-- ==== Proof.Array.lean ====
/-
  The kernel's result array as an explicit function: row `i` of the result lies in the block that point `8 + i / 8192`
  of the second phase writes back, and is the product of row `i` of the exponentials with the inverted column sums.
-/
module

public import proofs.«01_k».proof.Proof.Launch
public import Idealize.ShloMosaic.Lib.Pipeline.Value

@[expose] public section

set_option maxRecDepth 16384

noncomputable section

namespace Cert.Proof.Launch

open Cert.KernelIdeal Cert.KernelIdeal.Gen Cert.Proof.Step
open Idealize.ShloMosaic Idealize.ShloMosaic.TcCoe Idealize.ShloMosaic.Tactic
open Idealize.SL Idealize.SL.Sem
open Idealize.ShloMosaic.ValueIdx (ix2 eq_ix2)
open Idealize.ShloMosaic.Pipeline (Dat Cfg Window)

variable {F : FTy → Type} [FloatOps F]

variable (m : (ℓ : Loc nD τ sig) → Buf (Elt F) ℓ) (ρ : Dev nD → PrngReg)

/-- The result array: row `i` is row `i % 8192` of the block written at point `8 + i / 8192`. -/
def outArr (c : Dev nD) : Vec F S32768x256 .f32 := fun j =>
  quotBlock m c (pt (8 + (j 0).val / 8192)) (ix2 ⟨(j 0).val % 8192, Nat.mod_lt _ (by decide)⟩ (j 1))

/-- In the second phase the result's block at point `t` is number `t - 8`, and it starts at column 0. -/
theorem index5 : ∀ t : Fin cfg0.N, 8 ≤ t.val → win0_5.index t 0 = t.val - 8 ∧ win0_5.index t 1 = 0 :=
  (by decide +kernel : ∀ t : Fin grid0.N, 8 ≤ t.val → win0_5.index t 0 = t.val - 8 ∧ win0_5.index t 1 = 0)

/-- Row `8192 (t - 8) + r` of the result is row `r` of the block written at point `t`. -/
theorem outArr_at (c : Dev nD) (t : Fin cfg0.N) (h8 : 8 ≤ t.val) (j : S8192x256.Idx) (k : S32768x256.Idx)
    (h0 : (k 0).val = (t.val - 8) * 8192 + (j 0).val) (h1 : (k 1).val = (j 1).val) :
    quotBlock m c t j = outArr m c k := by
  have hj : (j 0).val < 8192 := (j 0).isLt
  have et : pt (8 + (k 0).val / 8192) = t := by
    rw [← pt_val t]; congr 1; omega
  unfold outArr
  rw [et]
  congr 1
  funext a
  apply Fin.ext
  match a with
  | ⟨0, _⟩ => show (j 0).val = (k 0).val % 8192; omega
  | ⟨1, _⟩ => exact h1.symm

/-- What point `t` writes back is its block of the result array. -/
theorem flushed5 (c : Dev nD) (t : Fin cfg0.N) (hf : (cfg0.win 5).flush t = true) :
    (dats m 0 c).flushed 5 t = ((cfg0.win 5).blk t).view.read (Elt F) (outArr m c) := by
  have h8 : 8 ≤ t.val := (flush5 t).mp hf
  obtain ⟨i0, i1⟩ := index5 t h8
  show (cfg0.win 5).cut (grid0.coords t) ((dats m 0 c).after 5 t) = _
  rw [after5]
  funext j
  rw [View.read_apply]
  refine outArr_at m c t h8 j _ ?_ ?_
  · show win0_5.index t 0 * 8192 + 1 * (j 0).val = _
    rw [i0, Nat.one_mul]
  · show win0_5.index t 1 * 256 + 1 * (j 1).val = _
    rw [i1, Nat.one_mul, Nat.zero_mul, Nat.zero_add]

/-- Every entry of the result is written back by some point. -/
theorem covered5 (i : main_v3.ty.Idx) :
    ∃ t : Fin cfg0.N, (cfg0.win 5).flush t = true ∧ i ∈ ((cfg0.win 5).blk t).view.set := by
  have h0 : (i 0 : Nat) < 32768 := (i 0).isLt
  have h1 : (i 1).val < 256 := (i 1).isLt
  have hN : cfg0.N = 12 := N_0
  have hv : (pt (8 + (i 0).val / 8192)).val = 8 + (i 0).val / 8192 := by
    show min (8 + (i 0).val / 8192) 11 = _; omega
  obtain ⟨i0, i1⟩ := index5 (pt (8 + (i 0).val / 8192)) (by omega)
  refine ⟨pt (8 + (i 0).val / 8192), (flush5 _).mpr (by omega), ?_⟩
  refine (Finset.ext_iff.mp (View.set_slice_whole main_v3 (win0_5.rect (pt (8 + (i 0).val / 8192)))) i).mpr ?_
  refine Rect.mem_set_unit.mpr fun a => ?_
  match a with
  | ⟨0, _⟩ =>
    show win0_5.index (pt (8 + (i 0).val / 8192)) 0 * 8192 ≤ (i 0).val
      ∧ (i 0).val < win0_5.index (pt (8 + (i 0).val / 8192)) 0 * 8192 + 8192
    rw [i0]; omega
  | ⟨1, _⟩ =>
    show win0_5.index (pt (8 + (i 0).val / 8192)) 1 * 256 ≤ (i 1).val
      ∧ (i 1).val < win0_5.index (pt (8 + (i 0).val / 8192)) 1 * 256 + 256
    rw [i1]; omega

/-- After the last point the result array holds `outArr`. -/
theorem final5 (c : Dev nD) : (dats m 0 c).arrAt 5 cfg0.N = outArr m c :=
  (dats m 0 c).arrAt_eq_of_cover 5 (outArr m c) (flushed5 m c) covered5

/-- A run of the kernel ends with the result holding `outArr` on every device. -/
theorem run_result : θ_run defs (onTc main) (s₀ m ρ)
    (fun r => ∀ c : Dev nD, r.2.mem ((c : Thread nD τ).loc main_v3) = outArr m c) :=
  (θ_run _ _ _).mono (fun _ h c => ((h c).1 5).trans (final5 m c)) (run_arrays m ρ)

end Cert.Proof.Launch

end
-- ==== Proof.Blocks.lean ====
/-
  What the kernel's blocks hold, entry by entry, as entries of the arguments: at point `t` of the first phase the blocks
  of `x` and `ref` are their rows `4096 t` to `4096 t + 4095`; the two weight blocks are the upper and the lower half of
  `W`, and the bias block is `b` as one row, at every point.
-/
module

public import proofs.«01_k».proof.Proof.Launch
public import Idealize.ShloMosaic.Lib.Pipeline.Value
public import Idealize.ShloMosaic.Lib.StableHlo.Run
public import Idealize.ShloMosaic.Lib.Pointwise

@[expose] public section

set_option maxRecDepth 16384

noncomputable section

namespace Cert.Proof.Blocks

open Cert.KernelIdeal Cert.KernelIdeal.Gen
open Idealize.ShloMosaic Idealize.ShloMosaic.TcCoe Idealize.ShloMosaic.StableHlo
open Idealize.SL Idealize.SL.Sem

variable {F : FTy → Type} [FloatOps F]

variable (m : (ℓ : Loc nD τ sig) → Buf (Elt F) ℓ)

/-- The first weight operand is the upper half of `W`. -/
theorem head_v0 (V₀ : Valuation τ sig (Elt F)) : StableHlo.after hostOps0 V₀ (Proc.devRef .tc main_v0)
    = (fun k => V₀ (Proc.devRef .tc main_arg4) (ix2 ⟨(k 0).val, Nat.lt_of_lt_of_le (k 0).isLt (by decide)⟩ (k 1))) := by
  after_results
  funext k
  refine congrArg (V₀ (Proc.devRef .tc main_arg4)) (funext (Fin.forall_fin_two.mpr ⟨Fin.ext ?_, Fin.ext ?_⟩))
  · exact Nat.zero_add _
  · exact Nat.zero_add _

/-- The second weight operand is the lower half of `W`. -/
theorem head_v1 (V₀ : Valuation τ sig (Elt F)) : StableHlo.after hostOps0 V₀ (Proc.devRef .tc main_v1)
    = (fun k => V₀ (Proc.devRef .tc main_arg4) (ix2 ⟨256 + (k 0).val, Nat.add_lt_add_left (k 0).isLt 256⟩ (k 1))) := by
  after_results
  funext k
  refine congrArg (V₀ (Proc.devRef .tc main_arg4)) (funext (Fin.forall_fin_two.mpr ⟨Fin.ext ?_, Fin.ext ?_⟩))
  · rfl
  · exact Nat.zero_add _

/-- The bias operand is `b` as one row. -/
theorem head_v2 (V₀ : Valuation τ sig (Elt F)) : StableHlo.after hostOps0 V₀ (Proc.devRef .tc main_v2)
    = (fun k => V₀ (Proc.devRef .tc main_arg5) (ix1 (k 1))) := by
  after_results
  funext k
  pointwise

/-- In the first phase the row blocks at point `t` are number `t`. -/
theorem index_rows : ∀ t : Fin cfg0.N, t.val < 8 →
    (win0_0.index t 0 = t.val ∧ win0_0.index t 1 = 0) ∧ win0_1.index t 0 = t.val ∧ win0_1.index t 1 = 0 :=
  (by decide +kernel : ∀ t : Fin grid0.N, t.val < 8 →
    (win0_0.index t 0 = t.val ∧ win0_0.index t 1 = 0) ∧ win0_1.index t 0 = t.val ∧ win0_1.index t 1 = 0)

/-- The weight blocks and the bias block are number 0 at every point. -/
theorem index_fixed : ∀ t : Fin cfg0.N,
    (win0_2.index t 0 = 0 ∧ win0_2.index t 1 = 0) ∧ (win0_3.index t 0 = 0 ∧ win0_3.index t 1 = 0)
      ∧ win0_4.index t 0 = 0 ∧ win0_4.index t 1 = 0 :=
  (by decide +kernel : ∀ t : Fin grid0.N,
    (win0_2.index t 0 = 0 ∧ win0_2.index t 1 = 0) ∧ (win0_3.index t 0 = 0 ∧ win0_3.index t 1 = 0)
      ∧ win0_4.index t 0 = 0 ∧ win0_4.index t 1 = 0)

/-- Row `r` of the block of `x` at point `t` is row `4096 t + r` of `x`. -/
theorem x_at (c : Dev nD) (t : Fin cfg0.N) (ht : t.val < 8) (r : Fin 4096) (k : Fin 256) (i : Fin 32768)
    (hi : i.val = 4096 * t.val + r.val) :
    (iblk m c 0 t : Vec F S4096x256 .f32) (ix2 r k) = m ((c : Thread nD τ).loc main_arg0) (ix2 i k) := by
  obtain ⟨⟨e0, e1⟩, -⟩ := index_rows t ht
  unfold iblk
  rw [View.read_apply]
  show V m c main_arg0 _ = _
  rw [V_main_arg0]
  refine congrArg _ (funext (Fin.forall_fin_two.mpr ⟨Fin.ext ?_, Fin.ext ?_⟩))
  · show win0_0.index t 0 * 4096 + 1 * r.val = i.val
    omega
  · show win0_0.index t 1 * 256 + 1 * k.val = k.val
    omega

/-- Row `r` of the block of `ref` at point `t` is row `4096 t + r` of `ref`. -/
theorem ref_at (c : Dev nD) (t : Fin cfg0.N) (ht : t.val < 8) (r : Fin 4096) (k : Fin 256) (i : Fin 32768)
    (hi : i.val = 4096 * t.val + r.val) :
    (iblk m c 1 t : Vec F S4096x256 .f32) (ix2 r k) = m ((c : Thread nD τ).loc main_arg1) (ix2 i k) := by
  obtain ⟨-, e0, e1⟩ := index_rows t ht
  unfold iblk
  rw [View.read_apply]
  show V m c main_arg1 _ = _
  rw [V_main_arg1]
  refine congrArg _ (funext (Fin.forall_fin_two.mpr ⟨Fin.ext ?_, Fin.ext ?_⟩))
  · show win0_1.index t 0 * 4096 + 1 * r.val = i.val
    omega
  · show win0_1.index t 1 * 256 + 1 * k.val = k.val
    omega

/-- Row `k` of the first weight block is row `k` of `W`. -/
theorem upper_at (c : Dev nD) (t : Fin cfg0.N) (k j : Fin 256) :
    (iblk m c 2 t : Vec F S256x256 .f32) (ix2 k j) = m ((c : Thread nD τ).loc main_arg4) (ix2 (k.castAdd 256) j) := by
  obtain ⟨⟨e0, e1⟩, -⟩ := index_fixed t
  unfold iblk
  rw [View.read_apply]
  refine (congrFun (head_v0 _) _).trans (congrArg (m ((c : Thread nD τ).loc main_arg4)) (funext (Fin.forall_fin_two.mpr ⟨Fin.ext ?_, Fin.ext ?_⟩)))
  · show win0_2.index t 0 * 256 + 1 * k.val = k.val
    omega
  · show win0_2.index t 1 * 256 + 1 * j.val = j.val
    omega

/-- Row `k` of the second weight block is row `256 + k` of `W`. -/
theorem lower_at (c : Dev nD) (t : Fin cfg0.N) (k j : Fin 256) :
    (iblk m c 3 t : Vec F S256x256 .f32) (ix2 k j) = m ((c : Thread nD τ).loc main_arg4) (ix2 (k.natAdd 256) j) := by
  obtain ⟨-, ⟨e0, e1⟩, -⟩ := index_fixed t
  unfold iblk
  rw [View.read_apply]
  refine (congrFun (head_v1 _) _).trans (congrArg (m ((c : Thread nD τ).loc main_arg4)) (funext (Fin.forall_fin_two.mpr ⟨Fin.ext ?_, Fin.ext ?_⟩)))
  · show 256 + (win0_3.index t 0 * 256 + 1 * k.val) = 256 + k.val
    omega
  · show win0_3.index t 1 * 256 + 1 * j.val = j.val
    omega

/-- Entry `j` of the bias block is entry `j` of `b`. -/
theorem bias_at (c : Dev nD) (t : Fin cfg0.N) (z : Fin 1) (j : Fin 256) :
    (iblk m c 4 t : Vec F S1x256 .f32) (ix2 z j) = m ((c : Thread nD τ).loc main_arg5) (ix1 j) := by
  obtain ⟨-, -, e0, e1⟩ := index_fixed t
  unfold iblk
  rw [View.read_apply]
  refine (congrFun (head_v2 _) _).trans (congrArg (m ((c : Thread nD τ).loc main_arg5)) (congrArg ix1 (Fin.ext ?_)))
  show win0_4.index t 1 * 256 + 1 * j.val = j.val
  omega

end Cert.Proof.Blocks

end
-- ==== Proof.Payload.lean ====
/-
  What the kernel's stored blocks hold, entry by entry, over the extended reals: the exponentials of a block of rows, the
  sums of their columns, and the products of the second phase.
-/
module

public import proofs.«01_k».proof.Proof.Gen.KernelIdeal.Skeleton
public import Idealize.ShloMosaic.Lib.Pointwise

@[expose] public section

set_option maxRecDepth 16384

noncomputable section

namespace Cert.Proof.Payload

open Cert.KernelIdeal Cert.KernelIdeal.Gen
open Idealize.ShloMosaic

variable (x : Vec Ideal S4096x256 .f32) (U : Vec Ideal S256x256 .f32) (r : Vec Ideal S4096x256 .f32) (L : Vec Ideal S256x256 .f32)
  (b : Vec Ideal S1x256 .f32)

/-- The exponential of the score of row `p` of a block, in column `j`. -/
def entry (p : Fin 4096) (j : Fin 256) : EReal :=
  Ideal.exp (Ideal.tanh (∑ k : Fin 256, x (ix2 p k) * U (ix2 k j) + ∑ k : Fin 256, r (ix2 p k) * L (ix2 k j) + b (ix2 0 j)))

/-- An entry of the exponentials. -/
theorem pay1_at (p : Fin 4096) (j : Fin 256) : k0_pay1 (F := Ideal) x U r L b (ix2 p j) = entry x U r L b p j := by
  pointwise [k0_pay1, entry]

/-- An entry of the block stored: rounding it does nothing over the extended reals. -/
theorem pay2_at (p : Fin 4096) (j : Fin 256) : k0_pay2 (F := Ideal) x U r L b (ix2 p j) = entry x U r L b p j := by
  rw [← pay1_at]
  pointwise [k0_pay2]

/-- An entry of the block's column sums. -/
theorem pay3_at (z : Fin 1) (j : Fin 256) : k0_pay3 (F := Ideal) x U r L b (ix2 z j) = ∑ p : Fin 4096, entry x U r L b p j := by
  simp only [← pay1_at]
  pointwise [k0_pay3]

/-- The column sums as first stored. -/
theorem pay4_at (z : Fin 1) (j : Fin 256) : k0_pay4 (F := Ideal) x U r L b (ix2 z j) = ∑ p : Fin 4096, entry x U r L b p j := by
  rw [← pay3_at x U r L b z]
  pointwise [k0_pay4]

/-- The column sums added to what was there. -/
theorem pay5_at (v : Vec Ideal S1x256 .f32) (z : Fin 1) (j : Fin 256) :
    k0_pay5 (F := Ideal) x U r L b v (ix2 z j) = v (ix2 z j) + ∑ p : Fin 4096, entry x U r L b p j := by
  rw [← pay3_at x U r L b z]
  pointwise [k0_pay5]

/-- A product of the second phase. -/
theorem pay6_at (e : Vec Ideal S8192x256 .bf16) (v : Vec Ideal S1x256 .f32) (p : Fin 8192) (j : Fin 256) :
    k0_pay6 (F := Ideal) e v (ix2 p j) = e (ix2 p j) * Ideal.div 1 (v (ix2 0 j)) := by
  pointwise [k0_pay6]

end Cert.Proof.Payload

end
-- ==== Proof.Softmax.lean ====
/-
  The mathematics of the claim, over the extended reals and away from any program: the softmax down one column of a
  table in which some slots hold real numbers and every other slot holds −∞.
-/
module

public import Idealize.ShloMosaic.PureOps.Ideal.Laws
public import Mathlib.Analysis.SpecialFunctions.Exp

@[expose] public section

noncomputable section

namespace Cert.Proof.Softmax

open Idealize.ShloMosaic

/-- The hyperbolic tangent of an extended real is a real number. -/
theorem tanh_real (z : EReal) : ∃ u : ℝ, Ideal.tanh z = (u : EReal) := by
  induction z with
  | bot => exact ⟨-1, by simp⟩
  | top => exact ⟨1, by simp⟩
  | coe r => exact ⟨Real.tanh r, rfl⟩

/-- A finite sum of real numbers taken in the extended reals is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division of a real number by a positive one is the real quotient. -/
theorem div_coe (a b : ℝ) (hb : 0 < b) : Ideal.div (a : EReal) (b : EReal) = ((a / b : ℝ) : EReal) := by
  unfold Ideal.div
  rw [if_neg (by exact_mod_cast hb.ne'), ← EReal.coe_inv, ← EReal.coe_mul, div_eq_mul_inv]

variable {N T : ℕ} (u : Fin N → ℝ) (slot : Fin N → Fin T) (t : Fin T → EReal)

/-- The greatest entry of the column is a real number: some slot holds a real number, and none holds more than one. -/
theorem greatest_real (i₀ : Fin N) (ht : ∀ i, t (slot i) = (u i : EReal)) (hrest : ∀ s, (∀ i, slot i ≠ s) → t s = ⊥) :
    ∃ M : ℝ, max ⊥ ((Finset.univ : Finset (Fin T)).fold max ⊥ t) = (M : EReal) := by
  have hlt : (Finset.univ : Finset (Fin T)).fold max ⊥ t < ⊤ := by
    refine (Finset.fold_max_lt _).mpr ⟨bot_lt_top, fun s _ => ?_⟩
    by_cases h : ∃ i, slot i = s
    · obtain ⟨i, rfl⟩ := h
      rw [ht i]; exact EReal.coe_lt_top _
    · rw [hrest s fun i e => h ⟨i, e⟩]; exact bot_lt_top
  have hge : (u i₀ : EReal) ≤ (Finset.univ : Finset (Fin T)).fold max ⊥ t :=
    (Finset.le_fold_max _).mpr (Or.inr ⟨slot i₀, Finset.mem_univ _, (ht i₀).ge⟩)
  rw [max_eq_right bot_le]
  exact ⟨_, (EReal.coe_toReal hlt.ne ((EReal.bot_lt_coe (u i₀)).trans_le hge).ne').symm⟩

/-- Only the written slots weigh in the column's sum of exponentials. -/
theorem weights_sum (hinj : Function.Injective slot) (ht : ∀ i, t (slot i) = (u i : EReal))
    (hrest : ∀ s, (∀ i, slot i ≠ s) → t s = ⊥) (M : ℝ) :
    ∑ s, Ideal.exp (t s - (M : EReal)) = ((∑ i, Real.exp (u i - M) : ℝ) : EReal) := by
  rw [coe_sum]
  refine (Fintype.sum_of_injective slot hinj _ _ (fun s hs => ?_) fun i => ?_).symm
  · rw [hrest s fun i e => hs ⟨i, e⟩, EReal.bot_sub, Ideal.exp_bot]
  · rw [ht i, ← EReal.coe_sub, Ideal.exp_coe]

/-- THE EQUATION. At a written slot the softmax of the column is that slot's exponential times the inverted sum of the
written slots' exponentials: shifting by the greatest entry changes nothing, and the empty slots weigh nothing. -/
theorem softmax_slot (hinj : Function.Injective slot) (ht : ∀ i, t (slot i) = (u i : EReal))
    (hrest : ∀ s, (∀ i, slot i ≠ s) → t s = ⊥) (i : Fin N) :
    Ideal.div (Ideal.exp (t (slot i) - max ⊥ ((Finset.univ : Finset (Fin T)).fold max ⊥ t)))
        (∑ s, Ideal.exp (t s - max ⊥ ((Finset.univ : Finset (Fin T)).fold max ⊥ t)))
      = Ideal.exp (u i : EReal) * Ideal.div 1 (∑ i, Ideal.exp (u i : EReal)) := by
  obtain ⟨M, hM⟩ := greatest_real u slot t i ht hrest
  have pos : ∀ v : Fin N → ℝ, 0 < ∑ i, Real.exp (v i) := fun v =>
    Finset.sum_pos (fun k _ => Real.exp_pos _) ⟨i, Finset.mem_univ i⟩
  have hsum : ∑ k, Ideal.exp (u k : EReal) = ((∑ k, Real.exp (u k) : ℝ) : EReal) := (coe_sum _ _).symm
  rw [hM, weights_sum u slot t hinj ht hrest M, ht i, ← EReal.coe_sub, Ideal.exp_coe, div_coe _ _ (pos _), hsum,
    ← EReal.coe_one, div_coe _ _ (pos _), Ideal.exp_coe, ← EReal.coe_mul]
  congr 1
  have e : ∑ k, Real.exp (u k - M) = (∑ k, Real.exp (u k)) * Real.exp (-M) := by
    rw [Finset.sum_mul]
    exact Finset.sum_congr rfl fun k _ => by rw [← Real.exp_add, sub_eq_add_neg]
  rw [e, sub_eq_add_neg, Real.exp_add, mul_div_mul_right _ _ (Real.exp_pos _).ne', one_div, div_eq_mul_inv]

end Cert.Proof.Softmax

end
-- ==== Proof.Score.lean ====
/-
  The score of a row, plainly: the hyperbolic tangent of the row of `x` times the upper half of the weights, plus the row
  of `ref` times the lower half, plus the bias. Always a real number.
-/
module

public import proofs.«01_k».proof.Proof.Softmax

@[expose] public section

set_option maxRecDepth 16384

noncomputable section

namespace Cert.Proof

open Idealize.ShloMosaic

/-- The score of row `i` in column `j`. -/
def score (x r : Fin 32768 → Fin 256 → EReal) (W : Fin 512 → Fin 256 → EReal) (b : Fin 256 → EReal) (i : Fin 32768) (j : Fin 256) :
    EReal :=
  Ideal.tanh (∑ k : Fin 256, x i k * W (k.castAdd 256) j + ∑ k : Fin 256, r i k * W (k.natAdd 256) j + b j)

/-- What the kernel and the reference both compute for row `i` in column `j`: the exponential of the row's score over the
sum of the exponentials of all the rows. -/
def share (w : Fin 32768 → Fin 256 → EReal) (i : Fin 32768) (j : Fin 256) : EReal :=
  Ideal.exp (w i j) * Ideal.div 1 (∑ i, Ideal.exp (w i j))

end Cert.Proof

end
-- ==== Proof.KerValue.lean ====
/-
  The kernel's result over the extended reals: entry `(i, j)` is the exponential of the score of row `i` in column `j`
  over the sum of the exponentials of all the rows in that column.
-/
module

public import proofs.«01_k».proof.Proof.Array
public import proofs.«01_k».proof.Proof.Blocks
public import proofs.«01_k».proof.Proof.Payload
public import proofs.«01_k».proof.Proof.Score
public import Idealize.ShloMosaic.Lib.Pipeline.ValueKit.Acc

@[expose] public section

set_option maxRecDepth 16384

noncomputable section

namespace Cert.Proof.KerValue

open Cert.KernelIdeal Cert.KernelIdeal.Gen Cert.Proof.Launch
open Idealize.ShloMosaic Idealize.ShloMosaic.TcCoe
open Idealize.SL Idealize.SL.Sem

variable (m : (ℓ : Loc nD τ sig) → Buf (Elt Ideal) ℓ) (c : Dev nD)

/-- The scores of the rows of the kernel's arguments. -/
def scores : Fin 32768 → Fin 256 → EReal :=
  score (fun i k => m ((c : Thread nD τ).loc main_arg0) (ix2 i k)) (fun i k => m ((c : Thread nD τ).loc main_arg1) (ix2 i k))
    (fun k j => m ((c : Thread nD τ).loc main_arg4) (ix2 k j)) (fun j => m ((c : Thread nD τ).loc main_arg5) (ix1 j))

/-- Row `r` of the blocks of point `t` is row `4096 t + r` of the arguments: the exponential of its score. -/
theorem entry_at (t : Fin cfg0.N) (ht : t.val < 8) (r : Fin 4096) (j : Fin 256) (i : Fin 32768) (hi : i.val = 4096 * t.val + r.val) :
    Payload.entry (iblk m c 0 t) (iblk m c 2 t) (iblk m c 1 t) (iblk m c 3 t) (iblk m c 4 t) r j = Ideal.exp (scores m c i j) := by
  unfold Payload.entry scores score
  rw [Blocks.bias_at]
  congr 3
  congr 1
  · refine Finset.sum_congr rfl fun k _ => ?_
    rw [Blocks.x_at m c t ht r k i hi, Blocks.upper_at]
  · refine Finset.sum_congr rfl fun k _ => ?_
    rw [Blocks.ref_at m c t ht r k i hi, Blocks.lower_at]

/-- Row `i` of the big scratch buffer holds the exponentials of the scores of row `i`. -/
theorem rows_at (i : Fin 32768) (j : Fin 256) : rowsAt m c (ix2 i j) = Ideal.exp (scores m c i j) := by
  have hv : (pt (i.val / 4096)).val = i.val / 4096 := by
    show min (i.val / 4096) 11 = _; omega
  refine (Payload.pay2_at _ _ _ _ _ ⟨i.val % 4096, Nat.mod_lt _ (by decide)⟩ j).trans (entry_at m c (pt (i.val / 4096)) (by omega) _ j i ?_)
  rw [hv]
  exact (Nat.div_add_mod i.val 4096).symm

/-- The sum of column `j` over the rows of block `n`. -/
def blockSum (n : ℕ) (j : Fin 256) : EReal :=
  ∑ r : Fin 4096, Payload.entry (iblk m c 0 (pt n)) (iblk m c 2 (pt n)) (iblk m c 1 (pt n)) (iblk m c 3 (pt n)) (iblk m c 4 (pt n)) r j

/-- After point `n` of the first phase the running sums are the sums over the blocks up to `n`. -/
theorem sums_at (j : Fin 256) : ∀ n : ℕ, n < 8 → sumsAt m c n (ix2 0 j) = ∑ t ∈ Finset.range (n + 1), blockSum m c t j
  | 0, _ => by
    rw [Finset.sum_range_one]
    exact Payload.pay4_at _ _ _ _ _ 0 j
  | n + 1, h => by
    have hv : (pt (n + 1)).val = n + 1 := by show min (n + 1) 11 = n + 1; omega
    have e := sumsAt_add m c (pt (n + 1)) (by omega) (by omega)
    rw [hv, Nat.add_sub_cancel] at e
    rw [Finset.sum_range_succ, ← sums_at j n (by omega), e]
    exact Payload.pay5_at _ _ _ _ _ _ 0 j

/-- From the last block on they are the sums over all the rows. -/
theorem sums_all (j : Fin 256) : sumsAt m c 7 (ix2 0 j) = ∑ i : Fin 32768, Ideal.exp (scores m c i j) := by
  rw [sums_at m c j 7 (by decide), Finset.sum_range]
  refine Eq.trans ?_ (Fin.sum_mul_add_fin (n := 4096) 8 (fun i => Ideal.exp (scores m c i j)))
  refine Finset.sum_congr rfl fun t _ => Finset.sum_congr rfl fun r _ => ?_
  have ht : t.val < 8 := t.isLt
  have hv : (pt t.val).val = t.val := by show min t.val 11 = t.val; omega
  refine entry_at m c _ (by omega) r j _ ?_
  rw [hv]
  show t.val * 4096 + r.val = _
  omega

/-- The second phase finds them unchanged. -/
theorem sums_kept (n : ℕ) (h : 7 ≤ n) : sumsAt m c n = sumsAt m c 7 := by
  induction n, h using Nat.le_induction with
  | base => rfl
  | succ n h ih => rw [sumsAt_keep m c (n + 1) (by omega), Nat.add_sub_cancel, ih]

/-- The kernel's result, entry by entry. -/
theorem out_at (i : Fin 32768) (j : Fin 256) : outArr m c (ix2 i j) = share (scores m c) i j := by
  have hv : (pt (8 + i.val / 8192)).val = 8 + i.val / 8192 := by
    show min (8 + i.val / 8192) 11 = _; omega
  have es : sumsAt m c ((pt (8 + i.val / 8192)).val - 1) (ix2 0 j) = ∑ i : Fin 32768, Ideal.exp (scores m c i j) := by
    rw [sums_kept m c _ (by omega), sums_all]
  have er : slab m c (pt (8 + i.val / 8192)) (ix2 ⟨i.val % 8192, Nat.mod_lt _ (by decide)⟩ j) = Ideal.exp (scores m c i j) := by
    refine Eq.trans (congrArg (fun q => rowsAt m c (ix2 q j)) (Fin.ext ?_)) (rows_at m c i j)
    show 8192 * ((pt (8 + i.val / 8192)).val - 8) + i.val % 8192 = i.val
    omega
  refine (Payload.pay6_at (slab m c (pt (8 + i.val / 8192))) (sumsAt m c ((pt (8 + i.val / 8192)).val - 1)) ⟨i.val % 8192, Nat.mod_lt _ (by decide)⟩ j).trans ?_
  unfold share
  rw [er, es]

end Cert.Proof.KerValue

end
-- ==== Proof.RefRun.lean ====
/-
  The reference's run: what its result array holds, as the reference's own operations applied to the arguments — the
  scores of the rows, the table of slots they are put into, the softmax of each of its columns over the slots, and the
  rows of it taken back out.
-/
module

public import proofs.«01_k».proof.Proof.Gen.ReferenceIdeal.Frame
public import Idealize.ShloMosaic.Lib.Pipeline.Value
public import Idealize.ShloMosaic.Lib.StableHlo.Run

@[expose] public section

set_option maxRecDepth 16384

noncomputable section

namespace Cert.Proof.RefRun

open Cert.ReferenceIdeal Cert.ReferenceIdeal.Gen
open Idealize.ShloMosaic Idealize.ShloMosaic.TcCoe Idealize.ShloMosaic.StableHlo
open Idealize.SL Idealize.SL.Sem

variable {F : FTy → Type} [FloatOps F] [Named F]

variable (m : (ℓ : Loc nD τ sig) → Buf (Elt F) ℓ) (ρ : Dev nD → PrngReg)

/-- The score of each row: the hyperbolic tangent of the joined row times the weights, plus the bias. -/
def scores (x r : FVec F S32768x256 .f32) (W : FVec F S512x256 .f32) (b : FVec F S256 .f32) : FVec F S32768x256 .f32 :=
  Host.tanh (addf (Host.dotGeneral dot_S32768x512_S512x256_S32768x256_1_0_0_1_n_n none
      (concatenate S32768x512 1 [⟨S32768x256, x⟩, ⟨S32768x256, r⟩] concatenates_S32768x256_S32768x256_S32768x512_d1) W)
    (broadcastInDim S32768x256 ![0, 1] bcast_S1x256_S32768x256_0_1 (broadcastInDim S1x256 ![1] bcast_S256_S1x256_1 b)))

/-- The slot each row goes to, a negative number counting from the end. -/
def slots (idx : IVec S32768 32) : IVec S32768x1 32 :=
  broadcastInDim S32768x1 ![0] bcast_S32768_S32768x1_0
    (select (cmpi .slt idx (broadcastInDim S32768 ![] bcast_S_S32768 (constantI S_ 32 0#32)))
      (addi idx (broadcastInDim S32768 ![] bcast_S_S32768 (constantI S_ 32 65536#32))) idx)

/-- The table of slots: row `slots[i]` is row `i` of the scores, every other row is `fill`. -/
def table (fill : FVec F S256 .f32) (s : IVec S32768x1 32) (w : FVec F S32768x256 .f32) : FVec F S65536x256 .f32 :=
  Host.scatter scatter_S65536x256_S32768x1_S32768x256_1_0_0_1 (fun _ b => b)
    (broadcastInDim S65536x256 ![1] bcast_S256_S65536x256_1 fill) s w

/-- The greatest entry of each column. -/
def colMax (t : FVec F S65536x256 .f32) : FVec F S256 .f32 :=
  maximumf (broadcastInDim S256 ![] bcast_S_S256 (constant S_ .f32 0xFF800000#32))
    (Host.reduce FloatOps.maximumf t (constant S_ .f32 0xFF800000#32) reducesTo_S65536x256_S256_d0 h_S_)

/-- The exponential of each entry less its column's greatest. -/
def shifted (t : FVec F S65536x256 .f32) : FVec F S65536x256 .f32 :=
  Host.exp (subf t (broadcastInDim S65536x256 ![0, 1] bcast_S1x256_S65536x256_0_1
    (broadcastInDim S1x256 ![1] bcast_S256_S1x256_1 (colMax t))))

/-- Each entry over the sum of its column. -/
def normal (e : FVec F S65536x256 .f32) : FVec F S65536x256 .f32 :=
  Host.divf e (broadcastInDim S65536x256 ![0, 1] bcast_S1x256_S65536x256_0_1
    (broadcastInDim S1x256 ![1] bcast_S256_S1x256_1
      (Host.reduceAdd e (constant S_ .f32 0x00000000#32) reducesTo_S65536x256_S256_d0 h_S_)))

/-- The softmax of the table, read back at the rows' slots. -/
def picked (fill : FVec F S256 .f32) (idx : IVec S32768 32) (w : FVec F S32768x256 .f32) : FVec F S32768x256 .f32 :=
  Host.gather gather_S65536x256_S32768x1_S32768x256_1_0_n_n_0_1_1256 (normal (shifted (table fill (slots idx) w))) (slots idx)

/-- The operations before the kernel leave the scores in `%5`. -/
theorem head_v5 (V₀ : Valuation τ sig (Elt F)) :
    StableHlo.after hostOps0 V₀ (Proc.devRef .tc main_v5)
      = scores (V₀ (Proc.devRef .tc main_arg0)) (V₀ (Proc.devRef .tc main_arg1)) (V₀ (Proc.devRef .tc main_arg4))
          (V₀ (Proc.devRef .tc main_arg5)) := by
  after_results
  rfl

/-- The operations after the kernel leave the picked rows in `%32`. -/
theorem tail_v32 (V₁ : Valuation τ sig (Elt F)) :
    StableHlo.after hostOps1 V₁ (Proc.devRef .tc main_v32)
      = picked (V₁ (Proc.devRef .tc main_v6)) (V₁ (Proc.devRef .tc main_arg3)) (V₁ (Proc.devRef .tc main_v5)) := by
  after_results
  rfl

/-- The kernel leaves the named constant in every entry of its row. -/
theorem fill_final (c : Dev nD) : (dats m 0 c).arrAt 1 cfg0.N = (k0_pay1 (F := F) : Buf (Elt F) ((c : Thread nD τ).loc main_v6)) := by
  have hz : (![0] : Fin 1 → Nat) = fun _ => 0 := funext fun a => by fin_cases a; rfl
  have hz' : (fun a => win0_1.index t0_0 a * main_v6.ty.shape.size a) = fun _ => 0 := funext fun a => by fin_cases a; decide
  refine (dats m 0 c).arrAt_eq_of_cover 1 (k0_pay1 (F := F) : Buf (Elt F) ((c : Thread nD τ).loc main_v6)) (fun t _ => ?_)
    fun i => ⟨t0_0, flush0_1 t0_0, ?_⟩
  · obtain rfl := fin_N0 t
    show (cfg0.win 1).cut (grid0.coords t0_0) ((dats m 0 c).after 1 t0_0) = _
    rw [after0_1]
    unfold out0_1
    rw [View.canon_unit_zero hz]
    exact (Memref.read_access_unit_zero (Elt F) main_v6 hz' (fun a => by rw [congrFun hz' a]; simp) (k0_pay1 (F := F))).symm
  · refine (Finset.ext_iff.mp (View.set_slice_whole main_v6 (win0_1.rect t0_0)) i).mpr ?_
    exact View.mem_set_unit_zero (S := S256) (funext fun a => by fin_cases a; decide) _ i

/-- A run of the reference ends with its result at the picked rows, on every device. -/
theorem run_result : θ_run defs (onTc (τ := τ) (main (F := F))) (s₀ m ρ)
    (fun r => ∀ c : Dev nD, r.2.mem ((c : Thread nD τ).loc main_v32)
      = picked (k0_pay1 (F := F)) (m ((c : Thread nD τ).loc main_arg3))
          (scores (m ((c : Thread nD τ).loc main_arg0)) (m ((c : Thread nD τ).loc main_arg1))
            (m ((c : Thread nD τ).loc main_arg4)) (m ((c : Thread nD τ).loc main_arg5)))) := by
  refine (θ_run defs _ _).mono (fun _ h c => ((h c).2 main_v32 (Pipeline.mem_restRefs_of main_v32 (by decide) (by decide))).trans ?_)
    (run_main m ρ)
  unfold Pipeline.afterTail₀
  rw [show ([hostOps1] : List (List (HloOp τ sig (Elt F)))).flatten = hostOps1 from List.append_nil _, tail_v32]
  have e6 : Pipeline.withArrays (cfgs 0).spec c (V0 m c) (fun w => (dats m 0 c).arrAt w (cfgs 0).N) (Proc.devRef .tc main_v6)
      = (k0_pay1 (F := F) : Buf (Elt F) ((c : Thread nD τ).loc main_v6)) :=
    (Pipeline.withArrays_arr (cfgs 0).spec launch0.win.arr_inj c (V0 m c) (fun w => (dats m 0 c).arrAt w (cfgs 0).N) 1).trans (fill_final m c)
  rw [e6, Pipeline.withArrays_of_ne _ c (V0 m c) _ main_arg3 (by exact (by decide : ∀ w, Pipeline.arrRef spec0 w ≠ main_arg3)),
    Pipeline.withArrays_of_ne _ c (V0 m c) _ main_v5 (by exact (by decide : ∀ w, Pipeline.arrRef spec0 w ≠ main_v5))]
  have e3 : V0 m c (Proc.devRef .tc main_arg3) = m ((c : Thread nD τ).loc main_arg3) := V_main_arg3 m c
  have e5 : V0 m c (Proc.devRef .tc main_v5) = scores (m ((c : Thread nD τ).loc main_arg0)) (m ((c : Thread nD τ).loc main_arg1))
            (m ((c : Thread nD τ).loc main_arg4)) (m ((c : Thread nD τ).loc main_arg5)) := by
    show StableHlo.after (List.flatten [hostOps0]) _ _ = _
    rw [show ([hostOps0] : List (List (HloOp τ sig (Elt F)))).flatten = hostOps0 from List.append_nil _, head_v5]
  rw [e3, e5]

end Cert.Proof.RefRun

end
-- ==== Proof.RefScore.lean ====
/-
  The reference's scores and its softmax, entry by entry, over the extended reals.
-/
module

public import proofs.«01_k».proof.Proof.RefRun
public import proofs.«01_k».proof.Proof.Score
public import Idealize.ShloMosaic.Lib.Pointwise

@[expose] public section

set_option maxRecDepth 16384

noncomputable section

namespace Cert.Proof.RefScore

open Cert.ReferenceIdeal Cert.ReferenceIdeal.Gen Cert.Proof.RefRun
open Idealize.ShloMosaic

/-- The score of row `i` in column `j`: the product over the joined row splits at its middle. -/
theorem scores_at (x r : FVec Ideal S32768x256 .f32) (W : FVec Ideal S512x256 .f32) (b : FVec Ideal S256 .f32) (i : Fin 32768)
    (j : Fin 256) :
    RefRun.scores x r W b (ix2 i j)
      = score (fun i k => x (ix2 i k)) (fun i k => r (ix2 i k)) (fun k j => W (ix2 k j)) (fun j => b (ix1 j)) i j := by
  pointwise [RefRun.scores, score]
  rfl

/-- A maximum taken down axis 0 of a matrix, at column `j`: the fold of `max` over the column. -/
theorem reduce_column {n k : ℕ} (f : EReal → EReal → EReal) (hf : f = max) {u : Shape} (x : (⟨2, ![n, k]⟩ : Shape).Idx → EReal)
    (init : u.Idx → EReal) (h' : (⟨2, ![n, k]⟩ : Shape).ReducesTo [0] ⟨1, ![k]⟩) (h : (⟨2, ![n, k]⟩ : Shape).Reduces [0] ⟨1, ![k]⟩)
    (hu : 0 < u.numel) (z : EReal) (hz : init (Shape.Idx.first hu) = z) (j : Fin k) :
    Host.reduce f x init h' hu (ix1 j) = Finset.univ.fold max z fun s : Fin n => x (ix2 s j) := by
  subst hf hz
  refine (Host.reduce_eq_fold_single (max : EReal → EReal → EReal) x init h' h hu (ix1 j)).trans ?_
  refine congrArg (Finset.univ.fold max (init (Shape.Idx.first hu))) (funext fun s => congrArg x ?_)
  exact funext (Fin.forall_fin_two.mpr ⟨Fin.ext rfl, Fin.ext rfl⟩)

/-- The greatest entry of column `j`. -/
theorem colMax_at (t : FVec Ideal S65536x256 .f32) (j : Fin 256) :
    colMax t (ix1 j) = max ⊥ (Finset.univ.fold max ⊥ fun s : Fin 65536 => t (ix2 s j)) := by
  have eb : Ideal.ofBits .f32 0xFF800000#32 = ⊥ := by simp [Ideal.ofBits, Ideal.ieee]
  have er : Host.reduce FloatOps.maximumf t (constant S_ .f32 0xFF800000#32) reducesTo_S65536x256_S256_d0 h_S_ (ix1 j)
      = Finset.univ.fold max ⊥ fun s : Fin 65536 => t (ix2 s j) :=
    reduce_column _ rfl t _ _ (by decide) _ ⊥ eb j
  have ec : broadcastInDim S256 ![] bcast_S_S256 (constant (F := Ideal) S_ .f32 0xFF800000#32) (ix1 j) = ⊥ := eb
  have em : ∀ p q : FVec Ideal S256 .f32, maximumf p q (ix1 j) = max (p (ix1 j)) (q (ix1 j)) := fun _ _ => rfl
  unfold colMax
  rw [em, er, ec]

/-- The shifted exponential of an entry. -/
theorem shifted_at (t : FVec Ideal S65536x256 .f32) (s : Fin 65536) (j : Fin 256) :
    shifted t (ix2 s j) = Ideal.exp (t (ix2 s j) - colMax t (ix1 j)) := by
  pointwise [shifted]

/-- An entry over the sum of its column. -/
theorem normal_at (e : FVec Ideal S65536x256 .f32) (s : Fin 65536) (j : Fin 256) :
    normal e (ix2 s j) = Ideal.div (e (ix2 s j)) (∑ s : Fin 65536, e (ix2 s j)) := by
  pointwise [normal]

end Cert.Proof.RefScore

end
-- ==== Proof.RefTable.lean ====
/-
  The reference's table of slots under the precondition's facts: row `i` of the scores lies in slot number `idx[i]`, every
  other slot keeps its fill, and what is read back for row `i` is the softmax at that slot.
-/
module

public import proofs.«01_k».proof.Proof.RefRun
public import Idealize.ShloMosaic.Lib.Routing.Ops
public import Idealize.ShloMosaic.Lib.Routing.OpsPair
public import Idealize.ShloMosaic.Lib.Pointwise

@[expose] public section

set_option maxRecDepth 16384

noncomputable section

namespace Cert.Proof.RefTable

open Cert.ReferenceIdeal Cert.ReferenceIdeal.Gen Cert.Proof.RefRun
open Idealize.ShloMosaic

/-! ## A fold that writes where a test holds -/

/-- When no element passes the test the fold keeps what it starts from. -/
theorem foldl_none {α β : Type} (p : β → Prop) [DecidablePred p] (f : β → α) (l : List β) (h : ∀ n ∈ l, ¬p n) (a : α) :
    l.foldl (fun a n => if p n then f n else a) a = a := by
  induction l generalizing a with
  | nil => rfl
  | cons n l ih =>
    rw [List.foldl_cons, if_neg (h n List.mem_cons_self)]
    exact ih (fun k hk => h k (List.mem_cons_of_mem _ hk)) a

/-- When every element that passes the test writes the same value, and one does, the fold ends at that value. -/
theorem foldl_same {α β : Type} (p : β → Prop) [DecidablePred p] (f : β → α) (l : List β) (v : α) (h : ∀ n ∈ l, p n → f n = v)
    (hex : ∃ n ∈ l, p n) (a : α) : l.foldl (fun a n => if p n then f n else a) a = v := by
  induction l using List.reverseRecOn with
  | nil => obtain ⟨n, hn, -⟩ := hex; cases hn
  | append_singleton l n ih =>
    rw [List.foldl_append, List.foldl_cons, List.foldl_nil]
    by_cases hp : p n
    · rw [if_pos hp, h n (by simp) hp]
    · rw [if_neg hp]
      obtain ⟨k, hk, hpk⟩ := hex
      refine ih (fun q hq => h q (List.mem_append_left _ hq)) ⟨k, ?_, hpk⟩
      rcases List.mem_append.mp hk with hk | hk
      · exact hk
      · rw [List.mem_singleton.mp hk] at hpk
        exact absurd hpk hp

/-! ## Where the rows land -/

variable (idx : IVec S32768 32) (hr : ∀ i : Fin 32768, (idx (ix1 i)).toNat < 65536)

/-- The slot of row `i`. -/
def slot (i : Fin 32768) : Fin 65536 := ⟨(idx (ix1 i)).toNat, hr i⟩

include hr in
/-- A slot number that is not negative is not wrapped. -/
theorem slots_at (i : Fin 32768) (z : Fin 1) : slots idx (ix2 i z) = idx (ix1 i) := by
  have e : slots idx (ix2 i z)
      = Scalar.select (IntOp.cmpi .slt (idx (ix1 i)) 0#32) (idx (ix1 i) + 65536#32) (idx (ix1 i)) := by
    pointwise! [slots]
  rw [e]
  exact Routing.wrap_of_lt _ _ (Nat.lt_of_lt_of_le (hr i) (by decide))

/-- Row `i` of the scores lands, column by column, in row `s` of the table exactly when its slot word is `s`. -/
theorem lands (w : IVec S32768x1 32) (i : Fin 32768) (j : Fin 256) (s : Fin 65536) (j' : Fin 256) :
    scatter_S65536x256_S32768x1_S32768x256_1_0_0_1.resultIdx? (ix2 i j) w = some (ix2 s j')
      ↔ (w (ix2 i 0)).toInt = s.val ∧ j = j' := by
  have h0 : scatter_S65536x256_S32768x1_S32768x256_1_0_0_1.start (ix2 i j) w 0 = (w (ix2 i 0)).toInt := by
    refine (dif_pos (List.mem_singleton.mpr rfl)).trans (congrArg (fun q => (w q).toInt) ?_)
    exact funext (Fin.forall_fin_two.mpr ⟨rfl, rfl⟩)
  have h1 : scatter_S65536x256_S32768x1_S32768x256_1_0_0_1.start (ix2 i j) w 1 = 0 := dif_neg (by decide)
  have w0 : scatter_S65536x256_S32768x1_S32768x256_1_0_0_1.window (ix2 i j) 0 = 0 := rfl
  have w1 : scatter_S65536x256_S32768x1_S32768x256_1_0_0_1.window (ix2 i j) 1 = j.val := rfl
  refine (Routing.resultIdx?_ix2 (R := 65536) (C := 256) scatter_S65536x256_S32768x1_S32768x256_1_0_0_1 (ix2 i j) w s j').trans ?_
  rw [h0, h1, w0, w1, Fin.ext_iff]
  omega

variable (fill : FVec Ideal S256 .f32) (v : FVec Ideal S32768x256 .f32)

/-- The slot of row `i` holds row `i`: no other row has that slot. -/
theorem table_slot (hinj : Function.Injective (slot idx hr)) (i : Fin 32768) (j : Fin 256) :
    table fill (slots idx) v (ix2 (slot idx hr i) j) = v (ix2 i j) := by
  unfold table
  rw [Routing.scatter_at]
  have key : ∀ i' : Fin 32768, (slots idx (ix2 i' 0)).toInt = ((idx (ix1 i')).toNat : Int) := fun i' => by
    rw [slots_at idx hr, WordCmp.toInt_eq_toNat_of_lt_half (Nat.lt_of_lt_of_le (hr i') (by decide))]
  refine foldl_same (fun n => scatter_S65536x256_S32768x1_S32768x256_1_0_0_1.resultIdx? (S32768x256.rowMajor.symm n) (slots idx)
    = some (ix2 (slot idx hr i) j)) (fun n => v (S32768x256.rowMajor.symm n)) _ _ ?_ ?_ _
  · intro n _ hn
    generalize S32768x256.rowMajor.symm n = k at hn ⊢
    obtain ⟨p, q, rfl⟩ : ∃ (p : Fin 32768) (q : Fin 256), k = ix2 p q := ⟨k 0, k 1, eq_ix2 k⟩
    obtain ⟨e, rfl⟩ := (lands _ _ _ _ _).mp hn
    rw [key] at e
    rw [hinj (Fin.ext (Int.ofNat.inj e) : slot idx hr p = slot idx hr i)]
  · refine ⟨S32768x256.rowMajor (ix2 i j), List.mem_finRange _, ?_⟩
    rw [Equiv.symm_apply_apply]
    exact (lands _ _ _ _ _).mpr ⟨key i, rfl⟩

/-- A slot of no row keeps the fill. -/
theorem table_rest (s : Fin 65536) (hs : ∀ i, slot idx hr i ≠ s) (j : Fin 256) :
    table fill (slots idx) v (ix2 s j) = fill (ix1 j) := by
  unfold table
  rw [Routing.scatter_at]
  refine (foldl_none (fun n => scatter_S65536x256_S32768x1_S32768x256_1_0_0_1.resultIdx? (S32768x256.rowMajor.symm n) (slots idx)
    = some (ix2 s j)) (fun n => v (S32768x256.rowMajor.symm n)) _ ?_ _).trans ?_
  · intro n _ hn
    generalize S32768x256.rowMajor.symm n = k at hn
    obtain ⟨p, q, rfl⟩ : ∃ (p : Fin 32768) (q : Fin 256), k = ix2 p q := ⟨k 0, k 1, eq_ix2 k⟩
    obtain ⟨e, -⟩ := (lands _ _ _ _ _).mp hn
    rw [slots_at idx hr, WordCmp.toInt_eq_toNat_of_lt_half (Nat.lt_of_lt_of_le (hr _) (by decide))] at e
    exact hs p (Fin.ext (Int.ofNat.inj e))
  · pointwise

/-- What is read back for row `i` is the normalised entry of its slot. -/
theorem picked_at (i : Fin 32768) (j : Fin 256) :
    picked fill idx v (ix2 i j) = normal (shifted (table fill (slots idx) v)) (ix2 (slot idx hr i) j) := by
  unfold picked
  refine congrArg (normal (shifted (table fill (slots idx) v))) (funext (Fin.forall_fin_two.mpr ⟨Fin.ext ?_, Fin.ext ?_⟩))
  · have h0 : gather_S65536x256_S32768x1_S32768x256_1_0_n_n_0_1_1256.start (ix2 i j) (slots idx) 0
        = min (slots idx (ix2 i 0)).toInt.toNat 65535 := by
      refine (dif_pos (List.mem_singleton.mpr rfl)).trans ?_
      refine congrArg (fun q => min (slots idx q).toInt.toNat 65535) (funext (Fin.forall_fin_two.mpr ⟨rfl, rfl⟩))
    show gather_S65536x256_S32768x1_S32768x256_1_0_n_n_0_1_1256.start (ix2 i j) (slots idx) 0 + 0 + 0 = (idx (ix1 i)).toNat
    have := hr i
    rw [h0, slots_at idx hr, WordCmp.toInt_eq_toNat_of_lt_half (Nat.lt_of_lt_of_le (hr i) (by decide)), Int.toNat_natCast]
    omega
  · show gather_S65536x256_S32768x1_S32768x256_1_0_n_n_0_1_1256.start (ix2 i j) (slots idx) 1 + 0 + j.val = j.val
    have h1 : gather_S65536x256_S32768x1_S32768x256_1_0_n_n_0_1_1256.start (ix2 i j) (slots idx) 1 = 0 := dif_neg (by decide)
    omega

end Cert.Proof.RefTable

end
-- ==== Proof.Equation.lean ====
/-
  The equation: under the precondition's facts the reference's result is, entry by entry, the exponential of the row's
  score over the sum of the exponentials of all the rows in that column — the slots no row is written to hold −∞, and
  weigh nothing.
-/
module

public import proofs.«01_k».proof.Proof.RefScore
public import proofs.«01_k».proof.Proof.RefTable

@[expose] public section

set_option maxRecDepth 16384

noncomputable section

namespace Cert.Proof.Equation

open Cert.ReferenceIdeal Cert.ReferenceIdeal.Gen Cert.Proof.RefRun
open Idealize.ShloMosaic

/-- The fill, by its name, is −∞. -/
theorem fill_at (j : Fin 256) : k0_pay1 (F := Ideal) (ix1 j) = ⊥ := by
  unfold k0_pay1
  exact IdealRules.named_const.ideal_named_scalar _ _ _ _ rfl

/-- The reference's result, entry by entry. -/
theorem picked_eq (idx : IVec S32768 32) (hr : ∀ i : Fin 32768, (idx (ix1 i)).toNat < 65536)
    (hinj : Function.Injective (RefTable.slot idx hr)) (x r : FVec Ideal S32768x256 .f32) (W : FVec Ideal S512x256 .f32)
    (b : FVec Ideal S256 .f32) (i : Fin 32768) (j : Fin 256) :
    picked (k0_pay1 (F := Ideal)) idx (RefRun.scores x r W b) (ix2 i j)
      = share (score (fun i k => x (ix2 i k)) (fun i k => r (ix2 i k)) (fun k j => W (ix2 k j)) (fun j => b (ix1 j))) i j := by
  have hreal : ∀ i : Fin 32768, ∃ u : ℝ,
      score (fun i k => x (ix2 i k)) (fun i k => r (ix2 i k)) (fun k j => W (ix2 k j)) (fun j => b (ix1 j)) i j = (u : EReal) :=
    fun i => Softmax.tanh_real _
  choose u hu using hreal
  have key := Softmax.softmax_slot u (RefTable.slot idx hr)
    (fun s => table (k0_pay1 (F := Ideal)) (slots idx) (RefRun.scores x r W b) (ix2 s j)) hinj
    (fun i => by rw [RefTable.table_slot idx hr _ _ hinj, RefScore.scores_at, hu])
    (fun s hs => by rw [RefTable.table_rest idx hr _ _ s hs, fill_at]) i
  rw [RefTable.picked_at idx hr, RefScore.normal_at]
  simp only [RefScore.shifted_at, RefScore.colMax_at]
  refine key.trans ?_
  unfold share
  simp only [hu]

end Cert.Proof.Equation

end
-- ==== Proof.Slots.lean ====
/-
  What the precondition gives: the index words, read as numbers, are slots of the table, no two of them the same.
-/
module

public import proofs.«01_k».proof.Proof.Gen.Pre_slots_distinct
public import Idealize.ShloMosaic.Lib.SortFacts
public import Idealize.ShloMosaic.Lib.Pointwise
public import Idealize.ShloMosaic.Lib.WordCmp

@[expose] public section

set_option maxRecDepth 16384

noncomputable section

namespace Cert.Proof.Slots

open Cert.Pre_slots_distinct
open Idealize.ShloMosaic

/-- A word that is nonnegative and below 65536, read signed, is a number below 65536. -/
theorem word_range (v : BitVec 32) (h0 : IntOp.cmpi .sge v 0#32 = 1#1) (h1 : IntOp.cmpi .slt v 65536#32 = 1#1) :
    v.toNat < 65536 := by
  rw [WordCmp.cmpi_sge_eq, WordCmp.ofBool_decide_eq_one_iff] at h0
  rw [WordCmp.cmpi_slt_eq, WordCmp.ofBool_decide_eq_one_iff] at h1
  have e0 : (0#32).toInt = 0 := by decide
  have e1 : (65536#32).toInt = 65536 := by decide
  rw [e0] at h0
  rw [e1] at h1
  have := v.isLt
  rw [BitVec.toInt_eq_toNat_cond] at h0 h1
  split at h0 <;> split at h1 <;> omega

/-- The signed order of two numbers below 65536 is their order. -/
theorem slt_lt (v w : BitVec 32) (hv : v.toNat < 65536) (hw : w.toNat < 65536) (h : IntOp.cmpi .slt v w = 1#1) :
    v.toNat < w.toNat := by
  rw [WordCmp.cmpi_slt_of_lt (by omega) (by omega), WordCmp.ofBool_decide_eq_one_iff] at h
  exact h

variable {F : FTy → Type} [FloatOps F] (x r : FVec F S32768x256 .f32) (k : IVec S65536 1) (idx : IVec S32768 32)
  (W : FVec F S512x256 .f32) (b : FVec F S256 .f32)

/-- Under the precondition every index word is a number below 65536. -/
theorem in_range (h0 : (fn x r k idx W b).1 = fun _ => 1#1) (h1 : (fn x r k idx W b).2.1 = fun _ => 1#1) (j : S32768.Idx) :
    (idx j).toNat < 65536 := by
  have e0 := congrFun h0 j
  have e1 := congrFun h1 j
  exact word_range _ e0 e1

/-- Under the precondition the sorted words increase strictly. -/
theorem sorted_strict (h0 : (fn x r k idx W b).1 = fun _ => 1#1) (h1 : (fn x r k idx W b).2.1 = fun _ => 1#1)
    (h2 : (fn x r k idx W b).2.2 = fun _ => 1#1) (n : ℕ) (hn : n + 1 < 32768) :
    (Host.sort S32768 0 comparator_i32_d0 idx (Shape.Idx.ofFin (⟨n, by omega⟩ : Fin 32768))).toNat
      < (Host.sort S32768 0 comparator_i32_d0 idx (Shape.Idx.ofFin (⟨n + 1, hn⟩ : Fin 32768))).toNat := by
  have e2 := congrFun h2 (Shape.Idx.ofFin (⟨n, by omega⟩ : Fin 32767))
  have below : ∀ q : Fin 32768, (Host.sort S32768 0 comparator_i32_d0 idx (Shape.Idx.ofFin q)).toNat < 65536 := fun q => by
    rw [Host.sort_rank1]
    exact in_range x r k idx W b h0 h1 _
  refine slt_lt _ _ (below _) (below _) (Eq.trans ?_ e2)
  show IntOp.cmpi .slt _ _ = IntOp.cmpi .slt (Host.sort S32768 0 comparator_i32_d0 idx _) (Host.sort S32768 0 comparator_i32_d0 idx _)
  congr 2
  · funext a
    obtain rfl : a = 0 := Subsingleton.elim _ _
    exact Fin.ext (Nat.zero_add n).symm
  · funext a
    obtain rfl : a = 0 := Subsingleton.elim _ _
    exact Fin.ext (Nat.add_comm n 1)

/-- Under the precondition the index words are pairwise different. -/
theorem distinct (h0 : (fn x r k idx W b).1 = fun _ => 1#1) (h1 : (fn x r k idx W b).2.1 = fun _ => 1#1)
    (h2 : (fn x r k idx W b).2.2 = fun _ => 1#1) : Function.Injective fun j => (idx j).toNat := by
  refine injective_toNat_of_sort_strict comparator_i32_d0 idx fun a c hac => ?_
  have step := sorted_strict x r k idx W b h0 h1 h2
  obtain ⟨a, ha⟩ := a
  obtain ⟨c, hc⟩ := c
  have hac' : a + 1 ≤ c := hac
  clear hac
  induction c, hac' using Nat.le_induction with
  | base => exact step a hc
  | succ c hle ih => exact (ih (by omega)).trans (step c hc)

end Cert.Proof.Slots

end
-- ==== Proof.lean ====
/-
  The proof of `Cert.Claim`: the frames of the three programs, the two idealizations, and the equation of the kernel with
  the reference over the extended reals, for index words that name pairwise different slots.
-/
module

public import proofs.«01_k».proof.Defs
public import proofs.«01_k».proof.Proof.KernelFrame
public import proofs.«01_k».proof.Proof.KerValue
public import proofs.«01_k».proof.Proof.Equation
public import proofs.«01_k».proof.Proof.Slots
public import proofs.«01_k».proof.Proof.Gen.Reference.Frame
public import Idealize.ShloMosaic.Lib.Claim

@[expose] public section

set_option maxRecDepth 16384

noncomputable section

namespace Cert.Proof

open Idealize.ShloMosaic Idealize.ShloMosaic.TcCoe Idealize.SL Idealize.SL.Sem

/-- From memories that agree on the arguments, under the precondition, the two result arrays are equal. -/
theorem results_eq (m : (ℓ : Loc Cert.KernelIdeal.nD Cert.KernelIdeal.τ Cert.KernelIdeal.sig) → Buf (Elt Ideal) ℓ)
    (hpre : Pre_KernelIdeal_slots_distinct m) (c : Dev Cert.KernelIdeal.nD) :
    RefRun.picked (Cert.ReferenceIdeal.Gen.k0_pay1 (F := Ideal)) (m ((c : Thread Cert.KernelIdeal.nD Cert.KernelIdeal.τ).loc Cert.KernelIdeal.main_arg3))
      (RefRun.scores (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg4))
        (m ((c : Thread Cert.KernelIdeal.nD Cert.KernelIdeal.τ).loc Cert.KernelIdeal.main_arg5)))
      = Launch.outArr m c := by
  obtain ⟨h0, h1, h2⟩ := hpre c
  have hr : ∀ i : Fin 32768, (m ((c : Thread Cert.KernelIdeal.nD Cert.KernelIdeal.τ).loc Cert.KernelIdeal.main_arg3) (ix1 i)).toNat < 65536 :=
    fun i => Slots.in_range _ _ _ _ _ _ h0 h1 (ix1 i)
  have hinj : Function.Injective (RefTable.slot (m ((c : Thread Cert.KernelIdeal.nD Cert.KernelIdeal.τ).loc Cert.KernelIdeal.main_arg3)) hr) :=
    fun a b e => (ix1_inj a b).mp (Slots.distinct _ _ _ _ _ _ h0 h1 h2
      (congrArg (fun s : Fin 65536 => s.val) e :
        (m ((c : Thread Cert.KernelIdeal.nD Cert.KernelIdeal.τ).loc Cert.KernelIdeal.main_arg3) (ix1 a)).toNat
          = (m ((c : Thread Cert.KernelIdeal.nD Cert.KernelIdeal.τ).loc Cert.KernelIdeal.main_arg3) (ix1 b)).toNat))
  funext q
  obtain ⟨i, j, rfl⟩ : ∃ (i : Fin 32768) (j : Fin 256), q = ix2 i j := ⟨q 0, q 1, eq_ix2 q⟩
  exact (Equation.picked_eq _ hr hinj _ _ _ _ i j).trans (KerValue.out_at m c i j).symm

/-- The kernel and the reference compute the same array. -/
theorem algebraic : algebraic_KernelIdeal_ReferenceIdeal_pre_slots_distinct := by
  intro m g m' g' hpre hargs
  refine ⟨fun c => Launch.outArr m c, ?_, ?_⟩
  · exact (θ_run _ _ _).mono (fun r h c => ⟨h.1 c, h.2.1 c⟩) (θ_run_and (Launch.run_result m g) (Launch.frame m g))
  · refine (θ_run _ _ _).mono (fun r h c => ⟨(h.1 c).trans ?_, h.2.1 c⟩)
      (θ_run_and (RefRun.run_result m' g') (Cert.ReferenceIdeal.Gen.frame m' g'))
    obtain ⟨a0, a1, -, a3, a4, a5⟩ := hargs c
    rw [a0, a1, a3, a4, a5]
    exact results_eq m hpre c

/-- Everything the certificate claims. -/
theorem claim : Cert.Claim :=
  ⟨Cert.Kernel.Gen.facts, Cert.KernelIdeal.Gen.facts, Cert.ReferenceIdeal.Gen.facts, Cert.Reference.Gen.facts,
    Cert.Pre_slots_distinct.Gen.facts,
    fun m g _ => KernelFrame.frame m g, fun m g _ => Launch.frame m g, fun m g _ => Launch.frame m g,
    fun m g _ => Cert.ReferenceIdeal.Gen.frame m g, fun m g _ => Cert.ReferenceIdeal.Gen.frame m g,
    fun m g _ => Cert.Reference.Gen.frame m g, trivial,
    IdealRules.named_const.statement Cert.ReferenceIdeal.κ "empty" .f32 0xD9FFCB9E#32 ⊥ rfl, algebraic⟩

end Cert.Proof

end
